-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v33)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v35) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v23)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x2 : Shape := ⟨2, ![16384, 2]⟩
abbrev S36864x2048 : Shape := ⟨2, ![36864, 2048]⟩
abbrev S2x8x2048x11264 : Shape := ⟨4, ![2, 8, 2048, 11264]⟩
abbrev S32768 : Shape := ⟨1, ![32768]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S_ : Shape := ⟨0, ![]⟩
abbrev S72 : Shape := ⟨1, ![72]⟩
abbrev S72x1 : Shape := ⟨2, ![72, 1]⟩
abbrev S72x8 : Shape := ⟨2, ![72, 8]⟩
abbrev S1 : Shape := ⟨1, ![1]⟩
abbrev S36864x5632 : Shape := ⟨2, ![36864, 5632]⟩
abbrev S512x2048 : Shape := ⟨2, ![512, 2048]⟩
abbrev S1x1x2048x512 : Shape := ⟨4, ![1, 1, 2048, 512]⟩
abbrev S512x512 : Shape := ⟨2, ![512, 512]⟩
abbrev S2048x512 : Shape := ⟨2, ![2048, 512]⟩

abbrev nBuf : Space → Nat
  | .hbm => 79
  | .vmem => 10
  | .smem => 2
  | _ => 0

abbrev bufTy : (tb : Table) → Fin (tcTables nBuf tb) → BufTy
  | .hbm, ⟨0, _⟩ => ⟨S16384x2, .i32⟩
  | .hbm, ⟨1, _⟩ => ⟨S36864x2048, .bf16⟩
  | .hbm, ⟨2, _⟩ => ⟨S2x8x2048x11264, .f32⟩
  | .hbm, ⟨3, _⟩ => ⟨S32768, .i32⟩
  | .hbm, ⟨4, _⟩ => ⟨S32768x1, .i32⟩
  | .hbm, ⟨5, _⟩ => ⟨S8, .i32⟩
  | .hbm, ⟨6, _⟩ => ⟨S1x8, .i32⟩
  | .hbm, ⟨7, _⟩ => ⟨S32768x8, .i32⟩
  | .hbm, ⟨8, _⟩ => ⟨S32768x8, .i32⟩
  | .hbm, ⟨9, _⟩ => ⟨S32768x8, .i1⟩
  | .hbm, ⟨10, _⟩ => ⟨S32768x8, .i32⟩
  | .hbm, ⟨11, _⟩ => ⟨S_, .i32⟩
  | .hbm, ⟨12, _⟩ => ⟨S_, .i32⟩
  | .hbm, ⟨13, _⟩ => ⟨S32768x8, .i32⟩
  | .hbm, ⟨14, _⟩ => ⟨S1x8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i1⟩
  | .hbm, ⟨35, _⟩ => ⟨S8, .i1⟩
  | .hbm, ⟨36, _⟩ => ⟨S_, .i32⟩
  | .hbm, ⟨37, _⟩ => ⟨S8, .i32⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S_, .i32⟩
  | .hbm, ⟨44, _⟩ => ⟨S_, .i32⟩
  | .hbm, ⟨45, _⟩ => ⟨S8, .i32⟩
  | .hbm, ⟨46, _⟩ => ⟨S72, .i32⟩
  | .hbm, ⟨47, _⟩ => ⟨S_, .i32⟩
  | .hbm, ⟨48, _⟩ => ⟨S72, .i32⟩
  | .hbm, ⟨49, _⟩ => ⟨S72, .i32⟩
  | .hbm, ⟨50, _⟩ => ⟨S72x1, .i32⟩
  | .hbm, ⟨51, _⟩ => ⟨S1x8, .i32⟩
  | .hbm, ⟨52, _⟩ => ⟨S72x8, .i32⟩
  | .hbm, ⟨53, _⟩ => ⟨S72x8, .i32⟩
  | .hbm, ⟨54, _⟩ => ⟨S72x8, .i1⟩
  | .hbm, ⟨55, _⟩ => ⟨S72x8, .i32⟩
  | .hbm, ⟨56, _⟩ => ⟨S_, .i32⟩
  | .hbm, ⟨57, _⟩ => ⟨S72, .i32⟩
  | .hbm, ⟨58, _⟩ => ⟨S_, .i32⟩
  | .hbm, ⟨59, _⟩ => ⟨S72, .i32⟩
  | .hbm, ⟨60, _⟩ => ⟨S1, .i32⟩
  | .hbm, ⟨61, _⟩ => ⟨S_, .i32⟩
  | .hbm, ⟨62, _⟩ => ⟨S_, .i32⟩
  | .hbm, ⟨63, _⟩ => ⟨S1, .i32⟩
  | .hbm, ⟨64, _⟩ => ⟨S1, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S1, .i1⟩
  | .hbm, ⟨69, _⟩ => ⟨S1, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S1, .i1⟩
  | .hbm, ⟨74, _⟩ => ⟨S1, .i1⟩
  | .hbm, ⟨75, _⟩ => ⟨S_, .i32⟩
  | .hbm, ⟨76, _⟩ => ⟨S1, .i32⟩
  | .hbm, ⟨77, _⟩ => ⟨S1, .i32⟩
  | .hbm, ⟨78, _⟩ => ⟨S36864x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .smem, ⟨0, _⟩ => ⟨S72, .i32⟩
  | .local _ .smem, ⟨1, _⟩ => ⟨S1, .i32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_call0_c : Ref sig .tc := ⟨.hbm, 11, rfl⟩
abbrev main_call0_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v15 : Ref sig .tc := ⟨.hbm, 39, rfl⟩
abbrev main_c_2 : Ref sig .tc := ⟨.hbm, 40, rfl⟩
abbrev main_v16 : Ref sig .tc := ⟨.hbm, 41, rfl⟩
abbrev main_v17 : Ref sig .tc := ⟨.hbm, 42, rfl⟩
abbrev main_call2_call0_c : Ref sig .tc := ⟨.hbm, 43, rfl⟩
abbrev main_call2_call0_v0 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v31 : Ref sig .tc := ⟨.hbm, 60, rfl⟩
abbrev main_c_6 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v33 : Ref sig .tc := ⟨.hbm, 78, rfl⟩
abbrev main_v30 : Ref sig .tc := ⟨.smem, 0, rfl⟩
abbrev main_v32 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 72], ![false, false]⟩

abbrev pre0 : Pipeline.Prefetch sig := ⟨2, ![main_v30.idx, main_v32.idx], fun | 0 => main_v30.names | 1 => main_v32.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c11_i32 : BitVec 32 := 11#32
  let v2 : BitVec 32 := Scalar.addi arg0 c11_i32
  let c0_i32 : BitVec 32 := 0#32
  let c0_i32_0 : BitVec 32 := 0#32
  let c0_i32_1 : BitVec 32 := 0#32
  ![c0_i32.toNat, v1.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x2 : Shape := ⟨2, ![16384, 2]⟩
abbrev S36864x2048 : Shape := ⟨2, ![36864, 2048]⟩
abbrev S2x8x2048x11264 : Shape := ⟨4, ![2, 8, 2048, 11264]⟩
abbrev S32768 : Shape := ⟨1, ![32768]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S_ : Shape := ⟨0, ![]⟩
abbrev S36864 : Shape := ⟨1, ![36864]⟩
abbrev S36864x1 : Shape := ⟨2, ![36864, 1]⟩
abbrev S36864x8 : Shape := ⟨2, ![36864, 8]⟩
abbrev S1 : Shape := ⟨1, ![1]⟩
abbrev S36864x5632 : Shape := ⟨2, ![36864, 5632]⟩
abbrev S1x1x2048x11264 : Shape := ⟨4, ![1, 1, 2048, 11264]⟩
abbrev S2048x11264 : Shape := ⟨2, ![2048, 11264]⟩
abbrev S36864x11264 : Shape := ⟨2, ![36864, 11264]⟩

abbrev nBuf : Space → Nat
  | .hbm => 233
  | .vmem => 0
  | .smem => 0
  | _ => 0

abbrev hbmTy0_0 (i : Nat) : BufTy := match i % 128 with
  | 0 => ⟨S16384x2, .i32⟩
  | 1 => ⟨S36864x2048, .bf16⟩
  | 2 => ⟨S2x8x2048x11264, .f32⟩
  | 3 => ⟨S32768, .i32⟩
  | 4 => ⟨S32768x1, .i32⟩
  | 5 => ⟨S8, .i32⟩
  | 6 => ⟨S1x8, .i32⟩
  | 7 => ⟨S32768x8, .i32⟩
  | 8 => ⟨S32768x8, .i32⟩
  | 9 => ⟨S32768x8, .i1⟩
  | 10 => ⟨S32768x8, .i32⟩
  | 11 => ⟨S_, .i32⟩
  | 12 => ⟨S8, .i32⟩
  | 13 => ⟨S_, .i32⟩
  | 14 => ⟨S8, .i32⟩
  | 15 => ⟨S8, .i32⟩
  | 16 => ⟨S_, .i32⟩
  | 17 => ⟨S_, .i32⟩
  | 18 => ⟨S8, .i32⟩
  | 19 => ⟨S8, .i32⟩
  | 20 => ⟨S8, .i32⟩
  | 21 => ⟨S_, .i32⟩
  | 22 => ⟨S8, .i32⟩
  | 23 => ⟨S8, .i1⟩
  | 24 => ⟨S8, .i32⟩
  | 25 => ⟨S8, .i32⟩
  | 26 => ⟨S_, .i32⟩
  | 27 => ⟨S8, .i32⟩
  | 28 => ⟨S8, .i1⟩
  | 29 => ⟨S8, .i1⟩
  | 30 => ⟨S_, .i32⟩
  | 31 => ⟨S8, .i32⟩
  | 32 => ⟨S8, .i32⟩
  | 33 => ⟨S8, .i32⟩
  | 34 => ⟨S_, .i32⟩
  | 35 => ⟨S8, .i32⟩
  | 36 => ⟨S8, .i32⟩
  | 37 => ⟨S_, .i32⟩
  | 38 => ⟨S_, .i32⟩
  | 39 => ⟨S8, .i32⟩
  | 40 => ⟨S36864, .i32⟩
  | 41 => ⟨S36864x1, .i32⟩
  | 42 => ⟨S1x8, .i32⟩
  | 43 => ⟨S36864x8, .i32⟩
  | 44 => ⟨S36864x8, .i32⟩
  | 45 => ⟨S36864x8, .i1⟩
  | 46 => ⟨S36864x8, .i32⟩
  | 47 => ⟨S_, .i32⟩
  | 48 => ⟨S36864, .i32⟩
  | 49 => ⟨S1, .i32⟩
  | 50 => ⟨S_, .i32⟩
  | 51 => ⟨S36864, .i32⟩
  | 52 => ⟨S36864, .i1⟩
  | 53 => ⟨S36864x2048, .f32⟩
  | 54 => ⟨S_, .f32⟩
  | 55 => ⟨S36864x5632, .f32⟩
  | 56 => ⟨S1x1x2048x11264, .f32⟩
  | 57 => ⟨S2048x11264, .f32⟩
  | 58 => ⟨S36864x11264, .f32⟩
  | 59 => ⟨S36864x5632, .f32⟩
  | 60 => ⟨S36864x5632, .f32⟩
  | 61 => ⟨S_, .i32⟩
  | 62 => ⟨S36864, .i32⟩
  | 63 => ⟨S36864, .i1⟩
  | 64 => ⟨S36864, .i1⟩
  | 65 => ⟨S36864x1, .i1⟩
  | 66 => ⟨S36864x5632, .f32⟩
  | 67 => ⟨S36864x5632, .f32⟩
  | 68 => ⟨S_, .f32⟩
  | 69 => ⟨S36864x5632, .f32⟩
  | 70 => ⟨S36864x5632, .f32⟩
  | 71 => ⟨S_, .f32⟩
  | 72 => ⟨S36864x5632, .f32⟩
  | 73 => ⟨S36864x5632, .f32⟩
  | 74 => ⟨S36864x5632, .f32⟩
  | 75 => ⟨S36864x5632, .f32⟩
  | 76 => ⟨S36864x5632, .i1⟩
  | 77 => ⟨S36864x5632, .f32⟩
  | 78 => ⟨S1x1x2048x11264, .f32⟩
  | 79 => ⟨S2048x11264, .f32⟩
  | 80 => ⟨S36864x11264, .f32⟩
  | 81 => ⟨S36864x5632, .f32⟩
  | 82 => ⟨S36864x5632, .f32⟩
  | 83 => ⟨S_, .i32⟩
  | 84 => ⟨S36864, .i32⟩
  | 85 => ⟨S36864, .i1⟩
  | 86 => ⟨S36864, .i1⟩
  | 87 => ⟨S36864x1, .i1⟩
  | 88 => ⟨S36864x5632, .f32⟩
  | 89 => ⟨S36864x5632, .f32⟩
  | 90 => ⟨S_, .f32⟩
  | 91 => ⟨S36864x5632, .f32⟩
  | 92 => ⟨S36864x5632, .f32⟩
  | 93 => ⟨S_, .f32⟩
  | 94 => ⟨S36864x5632, .f32⟩
  | 95 => ⟨S36864x5632, .f32⟩
  | 96 => ⟨S36864x5632, .f32⟩
  | 97 => ⟨S36864x5632, .f32⟩
  | 98 => ⟨S36864x5632, .i1⟩
  | 99 => ⟨S36864x5632, .f32⟩
  | 100 => ⟨S1x1x2048x11264, .f32⟩
  | 101 => ⟨S2048x11264, .f32⟩
  | 102 => ⟨S36864x11264, .f32⟩
  | 103 => ⟨S36864x5632, .f32⟩
  | 104 => ⟨S36864x5632, .f32⟩
  | 105 => ⟨S_, .i32⟩
  | 106 => ⟨S36864, .i32⟩
  | 107 => ⟨S36864, .i1⟩
  | 108 => ⟨S36864, .i1⟩
  | 109 => ⟨S36864x1, .i1⟩
  | 110 => ⟨S36864x5632, .f32⟩
  | 111 => ⟨S36864x5632, .f32⟩
  | 112 => ⟨S_, .f32⟩
  | 113 => ⟨S36864x5632, .f32⟩
  | 114 => ⟨S36864x5632, .f32⟩
  | 115 => ⟨S_, .f32⟩
  | 116 => ⟨S36864x5632, .f32⟩
  | 117 => ⟨S36864x5632, .f32⟩
  | 118 => ⟨S36864x5632, .f32⟩
  | 119 => ⟨S36864x5632, .f32⟩
  | 120 => ⟨S36864x5632, .i1⟩
  | 121 => ⟨S36864x5632, .f32⟩
  | 122 => ⟨S1x1x2048x11264, .f32⟩
  | 123 => ⟨S2048x11264, .f32⟩
  | 124 => ⟨S36864x11264, .f32⟩
  | 125 => ⟨S36864x5632, .f32⟩
  | 126 => ⟨S36864x5632, .f32⟩
  | 127 => ⟨S_, .i32⟩
  | _ => ⟨S16384x2, .i32⟩

abbrev hbmTy0_1 (i : Nat) : BufTy := match i % 128 with
  | 0 => ⟨S36864, .i32⟩
  | 1 => ⟨S36864, .i1⟩
  | 2 => ⟨S36864, .i1⟩
  | 3 => ⟨S36864x1, .i1⟩
  | 4 => ⟨S36864x5632, .f32⟩
  | 5 => ⟨S36864x5632, .f32⟩
  | 6 => ⟨S_, .f32⟩
  | 7 => ⟨S36864x5632, .f32⟩
  | 8 => ⟨S36864x5632, .f32⟩
  | 9 => ⟨S_, .f32⟩
  | 10 => ⟨S36864x5632, .f32⟩
  | 11 => ⟨S36864x5632, .f32⟩
  | 12 => ⟨S36864x5632, .f32⟩
  | 13 => ⟨S36864x5632, .f32⟩
  | 14 => ⟨S36864x5632, .i1⟩
  | 15 => ⟨S36864x5632, .f32⟩
  | 16 => ⟨S1x1x2048x11264, .f32⟩
  | 17 => ⟨S2048x11264, .f32⟩
  | 18 => ⟨S36864x11264, .f32⟩
  | 19 => ⟨S36864x5632, .f32⟩
  | 20 => ⟨S36864x5632, .f32⟩
  | 21 => ⟨S_, .i32⟩
  | 22 => ⟨S36864, .i32⟩
  | 23 => ⟨S36864, .i1⟩
  | 24 => ⟨S36864, .i1⟩
  | 25 => ⟨S36864x1, .i1⟩
  | 26 => ⟨S36864x5632, .f32⟩
  | 27 => ⟨S36864x5632, .f32⟩
  | 28 => ⟨S_, .f32⟩
  | 29 => ⟨S36864x5632, .f32⟩
  | 30 => ⟨S36864x5632, .f32⟩
  | 31 => ⟨S_, .f32⟩
  | 32 => ⟨S36864x5632, .f32⟩
  | 33 => ⟨S36864x5632, .f32⟩
  | 34 => ⟨S36864x5632, .f32⟩
  | 35 => ⟨S36864x5632, .f32⟩
  | 36 => ⟨S36864x5632, .i1⟩
  | 37 => ⟨S36864x5632, .f32⟩
  | 38 => ⟨S1x1x2048x11264, .f32⟩
  | 39 => ⟨S2048x11264, .f32⟩
  | 40 => ⟨S36864x11264, .f32⟩
  | 41 => ⟨S36864x5632, .f32⟩
  | 42 => ⟨S36864x5632, .f32⟩
  | 43 => ⟨S_, .i32⟩
  | 44 => ⟨S36864, .i32⟩
  | 45 => ⟨S36864, .i1⟩
  | 46 => ⟨S36864, .i1⟩
  | 47 => ⟨S36864x1, .i1⟩
  | 48 => ⟨S36864x5632, .f32⟩
  | 49 => ⟨S36864x5632, .f32⟩
  | 50 => ⟨S_, .f32⟩
  | 51 => ⟨S36864x5632, .f32⟩
  | 52 => ⟨S36864x5632, .f32⟩
  | 53 => ⟨S_, .f32⟩
  | 54 => ⟨S36864x5632, .f32⟩
  | 55 => ⟨S36864x5632, .f32⟩
  | 56 => ⟨S36864x5632, .f32⟩
  | 57 => ⟨S36864x5632, .f32⟩
  | 58 => ⟨S36864x5632, .i1⟩
  | 59 => ⟨S36864x5632, .f32⟩
  | 60 => ⟨S1x1x2048x11264, .f32⟩
  | 61 => ⟨S2048x11264, .f32⟩
  | 62 => ⟨S36864x11264, .f32⟩
  | 63 => ⟨S36864x5632, .f32⟩
  | 64 => ⟨S36864x5632, .f32⟩
  | 65 => ⟨S_, .i32⟩
  | 66 => ⟨S36864, .i32⟩
  | 67 => ⟨S36864, .i1⟩
  | 68 => ⟨S36864, .i1⟩
  | 69 => ⟨S36864x1, .i1⟩
  | 70 => ⟨S36864x5632, .f32⟩
  | 71 => ⟨S36864x5632, .f32⟩
  | 72 => ⟨S_, .f32⟩
  | 73 => ⟨S36864x5632, .f32⟩
  | 74 => ⟨S36864x5632, .f32⟩
  | 75 => ⟨S_, .f32⟩
  | 76 => ⟨S36864x5632, .f32⟩
  | 77 => ⟨S36864x5632, .f32⟩
  | 78 => ⟨S36864x5632, .f32⟩
  | 79 => ⟨S36864x5632, .f32⟩
  | 80 => ⟨S36864x5632, .i1⟩
  | 81 => ⟨S36864x5632, .f32⟩
  | 82 => ⟨S1x1x2048x11264, .f32⟩
  | 83 => ⟨S2048x11264, .f32⟩
  | 84 => ⟨S36864x11264, .f32⟩
  | 85 => ⟨S36864x5632, .f32⟩
  | 86 => ⟨S36864x5632, .f32⟩
  | 87 => ⟨S_, .i32⟩
  | 88 => ⟨S36864, .i32⟩
  | 89 => ⟨S36864, .i1⟩
  | 90 => ⟨S36864, .i1⟩
  | 91 => ⟨S36864x1, .i1⟩
  | 92 => ⟨S36864x5632, .f32⟩
  | 93 => ⟨S36864x5632, .f32⟩
  | 94 => ⟨S_, .f32⟩
  | 95 => ⟨S36864x5632, .f32⟩
  | 96 => ⟨S36864x5632, .f32⟩
  | 97 => ⟨S_, .f32⟩
  | 98 => ⟨S36864x5632, .f32⟩
  | 99 => ⟨S36864x5632, .f32⟩
  | 100 => ⟨S36864x5632, .f32⟩
  | 101 => ⟨S36864x5632, .f32⟩
  | 102 => ⟨S36864x5632, .i1⟩
  | 103 => ⟨S36864x5632, .f32⟩
  | 104 => ⟨S36864x5632, .bf16⟩
  | _ => ⟨S16384x2, .i32⟩

abbrev hbmTy (i : Nat) : BufTy := match i / 128 with
  | 0 => hbmTy0_0 i
  | 1 => hbmTy0_1 i
  | _ => ⟨S16384x2, .i32⟩

abbrev bufTy : (tb : Table) → Fin (tcTables nBuf tb) → BufTy
  | .hbm, ⟨i, _⟩ => hbmTy i
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_call1_call0_c : Ref sig .tc := ⟨.hbm, 37, rfl⟩
abbrev main_call1_call0_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v38 : Ref sig .tc := ⟨.hbm, 74, rfl⟩
abbrev main_v39 : Ref sig .tc := ⟨.hbm, 75, rfl⟩
abbrev main_call3_v0 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_5 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_call4_v0 : Ref sig .tc := ⟨.hbm, 88, rfl⟩
abbrev main_call4_v1 : Ref sig .tc := ⟨.hbm, 89, rfl⟩
abbrev main_call4_cst : Ref sig .tc := ⟨.hbm, 90, rfl⟩
abbrev main_call4_v2 : Ref sig .tc := ⟨.hbm, 91, rfl⟩
abbrev main_call4_v3 : Ref sig .tc := ⟨.hbm, 92, rfl⟩
abbrev main_call4_cst_0 : Ref sig .tc := ⟨.hbm, 93, rfl⟩
abbrev main_call4_v4 : Ref sig .tc := ⟨.hbm, 94, rfl⟩
abbrev main_call4_v5 : Ref sig .tc := ⟨.hbm, 95, rfl⟩
abbrev main_v50 : Ref sig .tc := ⟨.hbm, 96, rfl⟩
abbrev main_v51 : Ref sig .tc := ⟨.hbm, 97, rfl⟩
abbrev main_call5_v0 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_c_6 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_call6_v0 : Ref sig .tc := ⟨.hbm, 110, rfl⟩
abbrev main_call6_v1 : Ref sig .tc := ⟨.hbm, 111, rfl⟩
abbrev main_call6_cst : Ref sig .tc := ⟨.hbm, 112, rfl⟩
abbrev main_call6_v2 : Ref sig .tc := ⟨.hbm, 113, rfl⟩
abbrev main_call6_v3 : Ref sig .tc := ⟨.hbm, 114, rfl⟩
abbrev main_call6_cst_0 : Ref sig .tc := ⟨.hbm, 115, rfl⟩
abbrev main_call6_v4 : Ref sig .tc := ⟨.hbm, 116, rfl⟩
abbrev main_call6_v5 : Ref sig .tc := ⟨.hbm, 117, rfl⟩
abbrev main_v62 : Ref sig .tc := ⟨.hbm, 118, rfl⟩
abbrev main_v63 : Ref sig .tc := ⟨.hbm, 119, rfl⟩
abbrev main_call7_v0 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_c_7 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_call8_v0 : Ref sig .tc := ⟨.hbm, 132, rfl⟩
abbrev main_call8_v1 : Ref sig .tc := ⟨.hbm, 133, rfl⟩
abbrev main_call8_cst : Ref sig .tc := ⟨.hbm, 134, rfl⟩
abbrev main_call8_v2 : Ref sig .tc := ⟨.hbm, 135, rfl⟩
abbrev main_call8_v3 : Ref sig .tc := ⟨.hbm, 136, rfl⟩
abbrev main_call8_cst_0 : Ref sig .tc := ⟨.hbm, 137, rfl⟩
abbrev main_call8_v4 : Ref sig .tc := ⟨.hbm, 138, rfl⟩
abbrev main_call8_v5 : Ref sig .tc := ⟨.hbm, 139, rfl⟩
abbrev main_v74 : Ref sig .tc := ⟨.hbm, 140, rfl⟩
abbrev main_v75 : Ref sig .tc := ⟨.hbm, 141, rfl⟩
abbrev main_call9_v0 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_c_8 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_call10_v0 : Ref sig .tc := ⟨.hbm, 154, rfl⟩
abbrev main_call10_v1 : Ref sig .tc := ⟨.hbm, 155, rfl⟩
abbrev main_call10_cst : Ref sig .tc := ⟨.hbm, 156, rfl⟩
abbrev main_call10_v2 : Ref sig .tc := ⟨.hbm, 157, rfl⟩
abbrev main_call10_v3 : Ref sig .tc := ⟨.hbm, 158, rfl⟩
abbrev main_call10_cst_0 : Ref sig .tc := ⟨.hbm, 159, rfl⟩
abbrev main_call10_v4 : Ref sig .tc := ⟨.hbm, 160, rfl⟩
abbrev main_call10_v5 : Ref sig .tc := ⟨.hbm, 161, rfl⟩
abbrev main_v86 : Ref sig .tc := ⟨.hbm, 162, rfl⟩
abbrev main_v87 : Ref sig .tc := ⟨.hbm, 163, rfl⟩
abbrev main_call11_v0 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_c_9 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_call12_v0 : Ref sig .tc := ⟨.hbm, 176, rfl⟩
abbrev main_call12_v1 : Ref sig .tc := ⟨.hbm, 177, rfl⟩
abbrev main_call12_cst : Ref sig .tc := ⟨.hbm, 178, rfl⟩
abbrev main_call12_v2 : Ref sig .tc := ⟨.hbm, 179, rfl⟩
abbrev main_call12_v3 : Ref sig .tc := ⟨.hbm, 180, rfl⟩
abbrev main_call12_cst_0 : Ref sig .tc := ⟨.hbm, 181, rfl⟩
abbrev main_call12_v4 : Ref sig .tc := ⟨.hbm, 182, rfl⟩
abbrev main_call12_v5 : Ref sig .tc := ⟨.hbm, 183, rfl⟩
abbrev main_v98 : Ref sig .tc := ⟨.hbm, 184, rfl⟩
abbrev main_v99 : Ref sig .tc := ⟨.hbm, 185, rfl⟩
abbrev main_call13_v0 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_c_10 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_call14_v0 : Ref sig .tc := ⟨.hbm, 198, rfl⟩
abbrev main_call14_v1 : Ref sig .tc := ⟨.hbm, 199, rfl⟩
abbrev main_call14_cst : Ref sig .tc := ⟨.hbm, 200, rfl⟩
abbrev main_call14_v2 : Ref sig .tc := ⟨.hbm, 201, rfl⟩
abbrev main_call14_v3 : Ref sig .tc := ⟨.hbm, 202, rfl⟩
abbrev main_call14_cst_0 : Ref sig .tc := ⟨.hbm, 203, rfl⟩
abbrev main_call14_v4 : Ref sig .tc := ⟨.hbm, 204, rfl⟩
abbrev main_call14_v5 : Ref sig .tc := ⟨.hbm, 205, rfl⟩
abbrev main_v110 : Ref sig .tc := ⟨.hbm, 206, rfl⟩
abbrev main_v111 : Ref sig .tc := ⟨.hbm, 207, rfl⟩
abbrev main_call15_v0 : Ref sig .tc := ⟨.hbm, 208, rfl⟩
abbrev main_v112 : Ref sig .tc := ⟨.hbm, 209, rfl⟩
abbrev main_v113 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_c_11 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_call16_v0 : Ref sig .tc := ⟨.hbm, 220, rfl⟩
abbrev main_call16_v1 : Ref sig .tc := ⟨.hbm, 221, rfl⟩
abbrev main_call16_cst : Ref sig .tc := ⟨.hbm, 222, rfl⟩
abbrev main_call16_v2 : Ref sig .tc := ⟨.hbm, 223, rfl⟩
abbrev main_call16_v3 : Ref sig .tc := ⟨.hbm, 224, rfl⟩
abbrev main_call16_cst_0 : Ref sig .tc := ⟨.hbm, 225, rfl⟩
abbrev main_call16_v4 : Ref sig .tc := ⟨.hbm, 226, rfl⟩
abbrev main_call16_v5 : Ref sig .tc := ⟨.hbm, 227, rfl⟩
abbrev main_v122 : Ref sig .tc := ⟨.hbm, 228, rfl⟩
abbrev main_v123 : Ref sig .tc := ⟨.hbm, 229, rfl⟩
abbrev main_call17_v0 : Ref sig .tc := ⟨.hbm, 230, rfl⟩
abbrev main_v124 : Ref sig .tc := ⟨.hbm, 231, rfl⟩
abbrev main_v125 : Ref sig .tc := ⟨.hbm, 232, rfl⟩

abbrev nD : Nat := 1
abbrev τ : Topo := Topo.v7x

variable {F : FTy → Type} [FloatOps F]
-- ==== Kernel2.lean ====
abbrev S16384x2 : Shape := ⟨2, ![16384, 2]⟩
abbrev S36864x5632 : Shape := ⟨2, ![36864, 5632]⟩
abbrev S2x8x5632x2048 : Shape := ⟨4, ![2, 8, 5632, 2048]⟩
abbrev S32768 : Shape := ⟨1, ![32768]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S_ : Shape := ⟨0, ![]⟩
abbrev S72 : Shape := ⟨1, ![72]⟩
abbrev S72x1 : Shape := ⟨2, ![72, 1]⟩
abbrev S72x8 : Shape := ⟨2, ![72, 8]⟩
abbrev S1 : Shape := ⟨1, ![1]⟩
abbrev S36864x1x2048 : Shape := ⟨3, ![36864, 1, 2048]⟩
abbrev S512x5632 : Shape := ⟨2, ![512, 5632]⟩
abbrev S1x1x5632x512 : Shape := ⟨4, ![1, 1, 5632, 512]⟩
abbrev S512x1x512 : Shape := ⟨3, ![512, 1, 512]⟩
abbrev S5632x512 : Shape := ⟨2, ![5632, 512]⟩
abbrev S512x512 : Shape := ⟨2, ![512, 512]⟩

abbrev nBuf : Space → Nat
  | .hbm => 79
  | .vmem => 7
  | .smem => 2
  | _ => 0

abbrev bufTy : (tb : Table) → Fin (tcTables nBuf tb) → BufTy
  | .hbm, ⟨0, _⟩ => ⟨S16384x2, .i32⟩
  | .hbm, ⟨1, _⟩ => ⟨S36864x5632, .bf16⟩
  | .hbm, ⟨2, _⟩ => ⟨S2x8x5632x2048, .f32⟩
  | .hbm, ⟨3, _⟩ => ⟨S32768, .i32⟩
  | .hbm, ⟨4, _⟩ => ⟨S32768x1, .i32⟩
  | .hbm, ⟨5, _⟩ => ⟨S8, .i32⟩
  | .hbm, ⟨6, _⟩ => ⟨S1x8, .i32⟩
  | .hbm, ⟨7, _⟩ => ⟨S32768x8, .i32⟩
  | .hbm, ⟨8, _⟩ => ⟨S32768x8, .i32⟩
  | .hbm, ⟨9, _⟩ => ⟨S32768x8, .i1⟩
  | .hbm, ⟨10, _⟩ => ⟨S32768x8, .i32⟩
  | .hbm, ⟨11, _⟩ => ⟨S_, .i32⟩
  | .hbm, ⟨12, _⟩ => ⟨S_, .i32⟩
  | .hbm, ⟨13, _⟩ => ⟨S32768x8, .i32⟩
  | .hbm, ⟨14, _⟩ => ⟨S1x8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i1⟩
  | .hbm, ⟨35, _⟩ => ⟨S8, .i1⟩
  | .hbm, ⟨36, _⟩ => ⟨S_, .i32⟩
  | .hbm, ⟨37, _⟩ => ⟨S8, .i32⟩
  | .hbm, ⟨38, _⟩ => ⟨S8, .i32⟩
  | .hbm, ⟨39, _⟩ => ⟨S8, .i32⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S_, .i32⟩
  | .hbm, ⟨44, _⟩ => ⟨S_, .i32⟩
  | .hbm, ⟨45, _⟩ => ⟨S8, .i32⟩
  | .hbm, ⟨46, _⟩ => ⟨S72, .i32⟩
  | .hbm, ⟨47, _⟩ => ⟨S_, .i32⟩
  | .hbm, ⟨48, _⟩ => ⟨S72, .i32⟩
  | .hbm, ⟨49, _⟩ => ⟨S72, .i32⟩
  | .hbm, ⟨50, _⟩ => ⟨S72x1, .i32⟩
  | .hbm, ⟨51, _⟩ => ⟨S1x8, .i32⟩
  | .hbm, ⟨52, _⟩ => ⟨S72x8, .i32⟩
  | .hbm, ⟨53, _⟩ => ⟨S72x8, .i32⟩
  | .hbm, ⟨54, _⟩ => ⟨S72x8, .i1⟩
  | .hbm, ⟨55, _⟩ => ⟨S72x8, .i32⟩
  | .hbm, ⟨56, _⟩ => ⟨S_, .i32⟩
  | .hbm, ⟨57, _⟩ => ⟨S72, .i32⟩
  | .hbm, ⟨58, _⟩ => ⟨S_, .i32⟩
  | .hbm, ⟨59, _⟩ => ⟨S72, .i32⟩
  | .hbm, ⟨60, _⟩ => ⟨S1, .i32⟩
  | .hbm, ⟨61, _⟩ => ⟨S_, .i32⟩
  | .hbm, ⟨62, _⟩ => ⟨S_, .i32⟩
  | .hbm, ⟨63, _⟩ => ⟨S1, .i32⟩
  | .hbm, ⟨64, _⟩ => ⟨S1, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S1, .i1⟩
  | .hbm, ⟨69, _⟩ => ⟨S1, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S1, .i1⟩
  | .hbm, ⟨74, _⟩ => ⟨S1, .i1⟩
  | .hbm, ⟨75, _⟩ => ⟨S_, .i32⟩
  | .hbm, ⟨76, _⟩ => ⟨S1, .i32⟩
  | .hbm, ⟨77, _⟩ => ⟨S1, .i32⟩
  | .hbm, ⟨78, _⟩ => ⟨S36864x1x2048, .f32⟩
  | .local _ .vmem, ⟨0, _⟩ => ⟨S512x5632, .bf16⟩
  | .local _ .vmem, ⟨1, _⟩ => ⟨S512x5632, .bf16⟩
  | .local _ .vmem, ⟨2, _⟩ => ⟨S1x1x5632x512, .f32⟩
  | .local _ .vmem, ⟨3, _⟩ => ⟨S1x1x5632x512, .f32⟩
  | .local _ .vmem, ⟨4, _⟩ => ⟨S512x1x512, .f32⟩
  | .local _ .vmem, ⟨5, _⟩ => ⟨S512x1x512, .f32⟩
  | .local _ .vmem, ⟨6, _⟩ => ⟨S5632x512, .bf16⟩
  | .local _ .smem, ⟨0, _⟩ => ⟨S72, .i32⟩
  | .local _ .smem, ⟨1, _⟩ => ⟨S1, .i32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_call0_c : Ref sig .tc := ⟨.hbm, 11, rfl⟩
abbrev main_call0_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v15 : Ref sig .tc := ⟨.hbm, 39, rfl⟩
abbrev main_c_2 : Ref sig .tc := ⟨.hbm, 40, rfl⟩
abbrev main_v16 : Ref sig .tc := ⟨.hbm, 41, rfl⟩
abbrev main_v17 : Ref sig .tc := ⟨.hbm, 42, rfl⟩
abbrev main_call2_call0_c : Ref sig .tc := ⟨.hbm, 43, rfl⟩
abbrev main_call2_call0_v0 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v31 : Ref sig .tc := ⟨.hbm, 60, rfl⟩
abbrev main_c_6 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v33 : Ref sig .tc := ⟨.hbm, 78, rfl⟩
abbrev main_v30 : Ref sig .tc := ⟨.smem, 0, rfl⟩
abbrev main_v32 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_v30.idx, main_v32.idx], fun | 0 => main_v30.names | 1 => main_v32.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S72) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2 : Shape := ⟨2, ![16384, 2]⟩
abbrev S36864x5632 : Shape := ⟨2, ![36864, 5632]⟩
abbrev S2x8x5632x2048 : Shape := ⟨4, ![2, 8, 5632, 2048]⟩
abbrev S32768 : Shape := ⟨1, ![32768]⟩
abbrev S32768x1 : Shape := ⟨2, ![32768, 1]⟩
abbrev S8 : Shape := ⟨1, ![8]⟩
abbrev S1x8 : Shape := ⟨2, ![1, 8]⟩
abbrev S32768x8 : Shape := ⟨2, ![32768, 8]⟩
abbrev S_ : Shape := ⟨0, ![]⟩
abbrev S36864 : Shape := ⟨1, ![36864]⟩
abbrev S36864x1 : Shape := ⟨2, ![36864, 1]⟩
abbrev S36864x8 : Shape := ⟨2, ![36864, 8]⟩
abbrev S1 : Shape := ⟨1, ![1]⟩
abbrev S36864x2048 : Shape := ⟨2, ![36864, 2048]⟩
abbrev S1x1x5632x2048 : Shape := ⟨4, ![1, 1, 5632, 2048]⟩
abbrev S5632x2048 : Shape := ⟨2, ![5632, 2048]⟩
abbrev S36864x1x2048 : Shape := ⟨3, ![36864, 1, 2048]⟩

abbrev nBuf : Space → Nat
  | .hbm => 137
  | .vmem => 0
  | .smem => 0
  | _ => 0

abbrev hbmTy0_0 (i : Nat) : BufTy := match i % 128 with
  | 0 => ⟨S16384x2, .i32⟩
  | 1 => ⟨S36864x5632, .bf16⟩
  | 2 => ⟨S2x8x5632x2048, .f32⟩
  | 3 => ⟨S32768, .i32⟩
  | 4 => ⟨S32768x1, .i32⟩
  | 5 => ⟨S8, .i32⟩
  | 6 => ⟨S1x8, .i32⟩
  | 7 => ⟨S32768x8, .i32⟩
  | 8 => ⟨S32768x8, .i32⟩
  | 9 => ⟨S32768x8, .i1⟩
  | 10 => ⟨S32768x8, .i32⟩
  | 11 => ⟨S_, .i32⟩
  | 12 => ⟨S8, .i32⟩
  | 13 => ⟨S_, .i32⟩
  | 14 => ⟨S8, .i32⟩
  | 15 => ⟨S8, .i32⟩
  | 16 => ⟨S_, .i32⟩
  | 17 => ⟨S_, .i32⟩
  | 18 => ⟨S8, .i32⟩
  | 19 => ⟨S8, .i32⟩
  | 20 => ⟨S8, .i32⟩
  | 21 => ⟨S_, .i32⟩
  | 22 => ⟨S8, .i32⟩
  | 23 => ⟨S8, .i1⟩
  | 24 => ⟨S8, .i32⟩
  | 25 => ⟨S8, .i32⟩
  | 26 => ⟨S_, .i32⟩
  | 27 => ⟨S8, .i32⟩
  | 28 => ⟨S8, .i1⟩
  | 29 => ⟨S8, .i1⟩
  | 30 => ⟨S_, .i32⟩
  | 31 => ⟨S8, .i32⟩
  | 32 => ⟨S8, .i32⟩
  | 33 => ⟨S8, .i32⟩
  | 34 => ⟨S_, .i32⟩
  | 35 => ⟨S8, .i32⟩
  | 36 => ⟨S8, .i32⟩
  | 37 => ⟨S_, .i32⟩
  | 38 => ⟨S_, .i32⟩
  | 39 => ⟨S8, .i32⟩
  | 40 => ⟨S36864, .i32⟩
  | 41 => ⟨S36864x1, .i32⟩
  | 42 => ⟨S1x8, .i32⟩
  | 43 => ⟨S36864x8, .i32⟩
  | 44 => ⟨S36864x8, .i32⟩
  | 45 => ⟨S36864x8, .i1⟩
  | 46 => ⟨S36864x8, .i32⟩
  | 47 => ⟨S_, .i32⟩
  | 48 => ⟨S36864, .i32⟩
  | 49 => ⟨S1, .i32⟩
  | 50 => ⟨S_, .i32⟩
  | 51 => ⟨S36864, .i32⟩
  | 52 => ⟨S36864, .i1⟩
  | 53 => ⟨S36864x5632, .f32⟩
  | 54 => ⟨S_, .f32⟩
  | 55 => ⟨S36864x2048, .f32⟩
  | 56 => ⟨S_, .i32⟩
  | 57 => ⟨S36864, .i32⟩
  | 58 => ⟨S36864, .i1⟩
  | 59 => ⟨S36864, .i1⟩
  | 60 => ⟨S36864x1, .i1⟩
  | 61 => ⟨S1x1x5632x2048, .f32⟩
  | 62 => ⟨S5632x2048, .f32⟩
  | 63 => ⟨S36864x2048, .f32⟩
  | 64 => ⟨S36864x2048, .i1⟩
  | 65 => ⟨S36864x2048, .f32⟩
  | 66 => ⟨S_, .i32⟩
  | 67 => ⟨S36864, .i32⟩
  | 68 => ⟨S36864, .i1⟩
  | 69 => ⟨S36864, .i1⟩
  | 70 => ⟨S36864x1, .i1⟩
  | 71 => ⟨S1x1x5632x2048, .f32⟩
  | 72 => ⟨S5632x2048, .f32⟩
  | 73 => ⟨S36864x2048, .f32⟩
  | 74 => ⟨S36864x2048, .i1⟩
  | 75 => ⟨S36864x2048, .f32⟩
  | 76 => ⟨S_, .i32⟩
  | 77 => ⟨S36864, .i32⟩
  | 78 => ⟨S36864, .i1⟩
  | 79 => ⟨S36864, .i1⟩
  | 80 => ⟨S36864x1, .i1⟩
  | 81 => ⟨S1x1x5632x2048, .f32⟩
  | 82 => ⟨S5632x2048, .f32⟩
  | 83 => ⟨S36864x2048, .f32⟩
  | 84 => ⟨S36864x2048, .i1⟩
  | 85 => ⟨S36864x2048, .f32⟩
  | 86 => ⟨S_, .i32⟩
  | 87 => ⟨S36864, .i32⟩
  | 88 => ⟨S36864, .i1⟩
  | 89 => ⟨S36864, .i1⟩
  | 90 => ⟨S36864x1, .i1⟩
  | 91 => ⟨S1x1x5632x2048, .f32⟩
  | 92 => ⟨S5632x2048, .f32⟩
  | 93 => ⟨S36864x2048, .f32⟩
  | 94 => ⟨S36864x2048, .i1⟩
  | 95 => ⟨S36864x2048, .f32⟩
  | 96 => ⟨S_, .i32⟩
  | 97 => ⟨S36864, .i32⟩
  | 98 => ⟨S36864, .i1⟩
  | 99 => ⟨S36864, .i1⟩
  | 100 => ⟨S36864x1, .i1⟩
  | 101 => ⟨S1x1x5632x2048, .f32⟩
  | 102 => ⟨S5632x2048, .f32⟩
  | 103 => ⟨S36864x2048, .f32⟩
  | 104 => ⟨S36864x2048, .i1⟩
  | 105 => ⟨S36864x2048, .f32⟩
  | 106 => ⟨S_, .i32⟩
  | 107 => ⟨S36864, .i32⟩
  | 108 => ⟨S36864, .i1⟩
  | 109 => ⟨S36864, .i1⟩
  | 110 => ⟨S36864x1, .i1⟩
  | 111 => ⟨S1x1x5632x2048, .f32⟩
  | 112 => ⟨S5632x2048, .f32⟩
  | 113 => ⟨S36864x2048, .f32⟩
  | 114 => ⟨S36864x2048, .i1⟩
  | 115 => ⟨S36864x2048, .f32⟩
  | 116 => ⟨S_, .i32⟩
  | 117 => ⟨S36864, .i32⟩
  | 118 => ⟨S36864, .i1⟩
  | 119 => ⟨S36864, .i1⟩
  | 120 => ⟨S36864x1, .i1⟩
  | 121 => ⟨S1x1x5632x2048, .f32⟩
  | 122 => ⟨S5632x2048, .f32⟩
  | 123 => ⟨S36864x2048, .f32⟩
  | 124 => ⟨S36864x2048, .i1⟩
  | 125 => ⟨S36864x2048, .f32⟩
  | 126 => ⟨S_, .i32⟩
  | 127 => ⟨S36864, .i32⟩
  | _ => ⟨S16384x2, .i32⟩

abbrev hbmTy0_1 (i : Nat) : BufTy := match i % 128 with
  | 0 => ⟨S36864, .i1⟩
  | 1 => ⟨S36864, .i1⟩
  | 2 => ⟨S36864x1, .i1⟩
  | 3 => ⟨S1x1x5632x2048, .f32⟩
  | 4 => ⟨S5632x2048, .f32⟩
  | 5 => ⟨S36864x2048, .f32⟩
  | 6 => ⟨S36864x2048, .i1⟩
  | 7 => ⟨S36864x2048, .f32⟩
  | 8 => ⟨S36864x1x2048, .f32⟩
  | _ => ⟨S16384x2, .i32⟩

abbrev hbmTy (i : Nat) : BufTy := match i / 128 with
  | 0 => hbmTy0_0 i
  | 1 => hbmTy0_1 i
  | _ => ⟨S16384x2, .i32⟩

abbrev bufTy : (tb : Table) → Fin (tcTables nBuf tb) → BufTy
  | .hbm, ⟨i, _⟩ => hbmTy i
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_c_2 : Ref sig .tc := ⟨.hbm, 34, rfl⟩
abbrev main_v12 : Ref sig .tc := ⟨.hbm, 35, rfl⟩
abbrev main_v13 : Ref sig .tc := ⟨.hbm, 36, rfl⟩
abbrev main_call1_call0_c : Ref sig .tc := ⟨.hbm, 37, rfl⟩
abbrev main_call1_call0_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call2_v0 : Ref sig .tc := ⟨.hbm, 64, rfl⟩
abbrev main_v36 : Ref sig .tc := ⟨.hbm, 65, rfl⟩
abbrev main_c_5 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call3_v0 : Ref sig .tc := ⟨.hbm, 74, rfl⟩
abbrev main_v44 : Ref sig .tc := ⟨.hbm, 75, rfl⟩
abbrev main_c_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call4_v0 : Ref sig .tc := ⟨.hbm, 84, rfl⟩
abbrev main_v52 : Ref sig .tc := ⟨.hbm, 85, rfl⟩
abbrev main_c_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call5_v0 : Ref sig .tc := ⟨.hbm, 94, rfl⟩
abbrev main_v60 : Ref sig .tc := ⟨.hbm, 95, rfl⟩
abbrev main_c_8 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call6_v0 : Ref sig .tc := ⟨.hbm, 104, rfl⟩
abbrev main_v68 : Ref sig .tc := ⟨.hbm, 105, rfl⟩
abbrev main_c_9 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_call7_v0 : Ref sig .tc := ⟨.hbm, 114, rfl⟩
abbrev main_v76 : Ref sig .tc := ⟨.hbm, 115, rfl⟩
abbrev main_c_10 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_call8_v0 : Ref sig .tc := ⟨.hbm, 124, rfl⟩
abbrev main_v84 : Ref sig .tc := ⟨.hbm, 125, rfl⟩
abbrev main_c_11 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_call9_v0 : Ref sig .tc := ⟨.hbm, 134, rfl⟩
abbrev main_v92 : Ref sig .tc := ⟨.hbm, 135, rfl⟩
abbrev main_v93 : Ref sig .tc := ⟨.hbm, 136, rfl⟩

abbrev nD : Nat := 1
abbrev τ : Topo := Topo.v7x

variable {F : FTy → Type} [FloatOps F]
-- ==== Kernel3.lean ====
abbrev S16384x2048 : Shape := ⟨2, ![16384, 2048]⟩
abbrev S2x2048x11264 : Shape := ⟨3, ![2, 2048, 11264]⟩
abbrev S16384x5632 : Shape := ⟨2, ![16384, 5632]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S2x2048x11264, .bf16⟩
  | .hbm, ⟨3, _⟩ => ⟨S16384x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .bf16⟩
  | .local _ .vmem, ⟨7, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S16384x11264 : Shape := ⟨2, ![16384, 11264]⟩
abbrev S16384x5632 : Shape := ⟨2, ![16384, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S16384x2048, .f32⟩
  | .hbm, ⟨3, _⟩ => ⟨S1x2048x11264, .f32⟩
  | .hbm, ⟨4, _⟩ => ⟨S2048x11264, .f32⟩
  | .hbm, ⟨5, _⟩ => ⟨S16384x11264, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel4.lean ====
abbrev S16384x5632 : Shape := ⟨2, ![16384, 5632]⟩
abbrev S2x5632x2048 : Shape := ⟨3, ![2, 5632, 2048]⟩
abbrev S16384x2048 : Shape := ⟨2, ![16384, 2048]⟩
abbrev S4x2048 : Shape := ⟨2, ![4, 2048]⟩
abbrev S4x1x2048 : Shape := ⟨3, ![4, 1, 2048]⟩
abbrev S256x5632 : Shape := ⟨2, ![256, 5632]⟩
abbrev S1x5632x2048 : Shape := ⟨3, ![1, 5632, 2048]⟩
abbrev S256x2048 : Shape := ⟨2, ![256, 2048]⟩
abbrev S1x1x2048 : Shape := ⟨3, ![1, 1, 2048]⟩
abbrev S5632x2048 : Shape := ⟨2, ![5632, 2048]⟩
abbrev S256 : Shape := ⟨1, ![256]⟩
abbrev S256x1 : Shape := ⟨2, ![256, 1]⟩
abbrev S1x2048 : Shape := ⟨2, ![1, 2048]⟩

abbrev nBuf : Space → Nat
  | .hbm => 10
  | .vmem => 11
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S4x2048, .f32⟩
  | .hbm, ⟨4, _⟩ => ⟨S4x2048, .f32⟩
  | .hbm, ⟨5, _⟩ => ⟨S2x5632x2048, .bf16⟩
  | .hbm, ⟨6, _⟩ => ⟨S4x1x2048, .f32⟩
  | .hbm, ⟨7, _⟩ => ⟨S4x1x2048, .f32⟩
  | .hbm, ⟨8, _⟩ => ⟨S16384x2048, .f32⟩
  | .hbm, ⟨9, _⟩ => ⟨S16384x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x5632 : Shape := ⟨2, ![16384, 5632]⟩
abbrev S2x5632x2048 : Shape := ⟨3, ![2, 5632, 2048]⟩
abbrev S16384x2048 : Shape := ⟨2, ![16384, 2048]⟩
abbrev S4x2048 : Shape := ⟨2, ![4, 2048]⟩
abbrev S_ : Shape := ⟨0, ![]⟩
abbrev S1x5632x2048 : Shape := ⟨3, ![1, 5632, 2048]⟩
abbrev S5632x2048 : Shape := ⟨2, ![5632, 2048]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x5632, .f32⟩
  | .hbm, ⟨9, _⟩ => ⟨S1x5632x2048, .f32⟩
  | .hbm, ⟨10, _⟩ => ⟨S5632x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x2048, .f32⟩
  | .hbm, ⟨35, _⟩ => ⟨S16384x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel5.lean ====
abbrev S16384x2048 : Shape := ⟨2, ![16384, 2048]⟩
abbrev S4x2048x5664 : Shape := ⟨3, ![4, 2048, 5664]⟩
abbrev S4x4096 : Shape := ⟨2, ![4, 4096]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S16384x5632 : Shape := ⟨2, ![16384, 5632]⟩
abbrev S2048x2048 : Shape := ⟨2, ![2048, 2048]⟩
abbrev S1x2048x512 : Shape := ⟨3, ![1, 2048, 512]⟩
abbrev S2048x128 : Shape := ⟨2, ![2048, 128]⟩
abbrev S2048x512 : Shape := ⟨2, ![2048, 512]⟩

abbrev nBuf : Space → Nat
  | .hbm => 33
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S4x2048x5664, .f32⟩
  | .hbm, ⟨2, _⟩ => ⟨S4x4096, .i32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x4096, .f32⟩
  | .hbm, ⟨18, _⟩ => ⟨S16384x1, .f32⟩
  | .hbm, ⟨19, _⟩ => ⟨S1x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S_, .f32⟩
  | .hbm, ⟨26, _⟩ => ⟨S16384x96, .f32⟩
  | .hbm, ⟨27, _⟩ => ⟨S16384x128, .f32⟩
  | .hbm, ⟨28, _⟩ => ⟨S16384x16, .f32⟩
  | .hbm, ⟨29, _⟩ => ⟨S_, .f32⟩
  | .hbm, ⟨30, _⟩ => ⟨S16384x96, .f32⟩
  | .hbm, ⟨31, _⟩ => ⟨S16384x128, .f32⟩
  | .hbm, ⟨32, _⟩ => ⟨S16384x5632, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x512, .f32⟩
  | .local _ .vmem, ⟨9, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c4_i32 : BitVec 32 := 4#32
  let v5 : BitVec 1 := Scalar.cmpi .slt arg1 c4_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c4_i32_4 : BitVec 32 := 4#32
  let v8 : BitVec 1 := Scalar.cmpi .sge arg1 c4_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x2048 : Shape := ⟨2, ![16384, 2048]⟩
abbrev S4x2048x5664 : Shape := ⟨3, ![4, 2048, 5664]⟩
abbrev S4x4096 : Shape := ⟨2, ![4, 4096]⟩
abbrev S16 : Shape := ⟨1, ![16]⟩
abbrev S_ : Shape := ⟨0, ![]⟩
abbrev S4x4096x1 : Shape := ⟨3, ![4, 4096, 1]⟩
abbrev S1x1x16 : Shape := ⟨3, ![1, 1, 16]⟩
abbrev S4x4096x16 : Shape := ⟨3, ![4, 4096, 16]⟩
abbrev S4x4096x1x16 : Shape := ⟨4, ![4, 4096, 1, 16]⟩
abbrev S4x4096x2048 : Shape := ⟨3, ![4, 4096, 2048]⟩
abbrev S1x2048x5664 : Shape := ⟨3, ![1, 2048, 5664]⟩
abbrev S2048x5664 : Shape := ⟨2, ![2048, 5664]⟩
abbrev S4x4096x5664 : Shape := ⟨3, ![4, 4096, 5664]⟩
abbrev S4x4096x1024 : Shape := ⟨3, ![4, 4096, 1024]⟩
abbrev S4x4096x3584 : Shape := ⟨3, ![4, 4096, 3584]⟩
abbrev S4x4096x32 : Shape := ⟨3, ![4, 4096, 32]⟩
abbrev S4x4096x8x128 : Shape := ⟨4, ![4, 4096, 8, 128]⟩
abbrev S4x4096x8x16 : Shape := ⟨4, ![4, 4096, 8, 16]⟩
abbrev S4x4096x8x96 : Shape := ⟨4, ![4, 4096, 8, 96]⟩
abbrev S4x4096x5632 : Shape := ⟨3, ![4, 4096, 5632]⟩
abbrev S16384x5632 : Shape := ⟨2, ![16384, 5632]⟩

abbrev nBuf : Space → Nat
  | .hbm => 70
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x5664, .f32⟩
  | .hbm, ⟨2, _⟩ => ⟨S4x4096, .i32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4x4096, .f32⟩
  | .hbm, ⟨18, _⟩ => ⟨S4x4096x1, .f32⟩
  | .hbm, ⟨19, _⟩ => ⟨S1x1x16, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S4x4096x16, .f32⟩
  | .hbm, ⟨24, _⟩ => ⟨S4x4096x1x16, .f32⟩
  | .hbm, ⟨25, _⟩ => ⟨S4x4096x16, .f32⟩
  | .hbm, ⟨26, _⟩ => ⟨S4x4096x1x16, .f32⟩
  | .hbm, ⟨27, _⟩ => ⟨S16384x2048, .f32⟩
  | .hbm, ⟨28, _⟩ => ⟨S4x4096x2048, .f32⟩
  | .hbm, ⟨29, _⟩ => ⟨S1x2048x5664, .f32⟩
  | .hbm, ⟨30, _⟩ => ⟨S2048x5664, .f32⟩
  | .hbm, ⟨31, _⟩ => ⟨S4x4096x5664, .f32⟩
  | .hbm, ⟨32, _⟩ => ⟨S4x4096x1024, .f32⟩
  | .hbm, ⟨33, _⟩ => ⟨S4x4096x1024, .f32⟩
  | .hbm, ⟨34, _⟩ => ⟨S4x4096x3584, .f32⟩
  | .hbm, ⟨35, _⟩ => ⟨S4x4096x32, .f32⟩
  | .hbm, ⟨36, _⟩ => ⟨S4x4096x8x128, .f32⟩
  | .hbm, ⟨37, _⟩ => ⟨S4x4096x8x16, .f32⟩
  | .hbm, ⟨38, _⟩ => ⟨S4x4096x8x16, .f32⟩
  | .hbm, ⟨39, _⟩ => ⟨S4x4096x8x16, .f32⟩
  | .hbm, ⟨40, _⟩ => ⟨S4x4096x8x16, .f32⟩
  | .hbm, ⟨41, _⟩ => ⟨S4x4096x8x16, .f32⟩
  | .hbm, ⟨42, _⟩ => ⟨S4x4096x8x16, .f32⟩
  | .hbm, ⟨43, _⟩ => ⟨S4x4096x8x16, .f32⟩
  | .hbm, ⟨44, _⟩ => ⟨S4x4096x8x16, .f32⟩
  | .hbm, ⟨45, _⟩ => ⟨S4x4096x8x16, .f32⟩
  | .hbm, ⟨46, _⟩ => ⟨S4x4096x8x16, .f32⟩
  | .hbm, ⟨47, _⟩ => ⟨S4x4096x8x16, .f32⟩
  | .hbm, ⟨48, _⟩ => ⟨S4x4096x8x16, .f32⟩
  | .hbm, ⟨49, _⟩ => ⟨S4x4096x8x96, .f32⟩
  | .hbm, ⟨50, _⟩ => ⟨S4x4096x8x128, .f32⟩
  | .hbm, ⟨51, _⟩ => ⟨S4x4096x1024, .f32⟩
  | .hbm, ⟨52, _⟩ => ⟨S4x4096x8x128, .f32⟩
  | .hbm, ⟨53, _⟩ => ⟨S4x4096x8x16, .f32⟩
  | .hbm, ⟨54, _⟩ => ⟨S4x4096x8x16, .f32⟩
  | .hbm, ⟨55, _⟩ => ⟨S4x4096x8x16, .f32⟩
  | .hbm, ⟨56, _⟩ => ⟨S4x4096x8x16, .f32⟩
  | .hbm, ⟨57, _⟩ => ⟨S4x4096x8x16, .f32⟩
  | .hbm, ⟨58, _⟩ => ⟨S4x4096x8x16, .f32⟩
  | .hbm, ⟨59, _⟩ => ⟨S4x4096x8x16, .f32⟩
  | .hbm, ⟨60, _⟩ => ⟨S4x4096x8x16, .f32⟩
  | .hbm, ⟨61, _⟩ => ⟨S4x4096x8x16, .f32⟩
  | .hbm, ⟨62, _⟩ => ⟨S4x4096x8x16, .f32⟩
  | .hbm, ⟨63, _⟩ => ⟨S4x4096x8x16, .f32⟩
  | .hbm, ⟨64, _⟩ => ⟨S4x4096x8x16, .f32⟩
  | .hbm, ⟨65, _⟩ => ⟨S4x4096x8x96, .f32⟩
  | .hbm, ⟨66, _⟩ => ⟨S4x4096x8x128, .f32⟩
  | .hbm, ⟨67, _⟩ => ⟨S4x4096x1024, .f32⟩
  | .hbm, ⟨68, _⟩ => ⟨S4x4096x5632, .f32⟩
  | .hbm, ⟨69, _⟩ => ⟨S16384x5632, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩

abbrev nD : Nat := 1
abbrev τ : Topo := Topo.v7x

variable {F : FTy → Type} [FloatOps F]
-- ==== Proof.Transport.lean ====
module

public import Idealize.ShloMosaic.Lib.Pipeline.Frame
public import Idealize.ShloMosaic.Lib.StableHlo.Run

@[expose] public section

noncomputable section

/-! Two programs of one text have one set of runs. -/

namespace Cert.Transport

open Idealize.ShloMosaic Idealize.ShloMosaic.TcCoe Idealize.SL.Sem

variable {nD : ℕ} {τ : Topo} {sig : RefSig} {Val : EltTy → Type} {Λ₀ : Labels}

/-- Host operations in stretches, then the one call. -/
def body (pcfgs : Fin 1 → Pipeline.PCfg sig Λ₀ Val) (ops : List (List (HloOp τ sig Val))) :
    Prog (TpuEff nD τ sig Val (Pipeline.Sig Λ₀ (Fin 1) fun p => (pcfgs p).Adm) .tc) PUnit :=
  Pipeline.chain (ops.map StableHlo.seq ++ [Prog.lift (.customCall (Pipeline.entry 0) ())])

/-- A run of a program of host operations and one call is a run of the program of the same operations and the same call. -/
theorem run_of_same (pcfgs pcfgs' : Fin 1 → Pipeline.PCfg sig Λ₀ Val) (h : pcfgs = pcfgs') (defs₀ defs₀' : Defs nD τ sig Val Λ₀)
    (hd : defs₀ = defs₀') (ops ops' : List (List (HloOp τ sig Val))) (ho : ops = ops')
    (main : Dev nD → Prog (TpuEff nD τ sig Val (Pipeline.Sig Λ₀ (Fin 1) fun p => (pcfgs p).Adm) .tc) PUnit)
    (main' : Dev nD → Prog (TpuEff nD τ sig Val (Pipeline.Sig Λ₀ (Fin 1) fun p => (pcfgs' p).Adm) .tc) PUnit)
    (hm : ∀ c, main c = body pcfgs ops) (hm' : ∀ c, main' c = body pcfgs' ops')
    (s) (Q) (hr : θ_run (Pipeline.defs pcfgs defs₀) (onTc (τ := τ) main) s Q) :
    θ_run (Pipeline.defs pcfgs' defs₀') (onTc (τ := τ) main') s Q := by
  subst h hd ho
  obtain rfl : main = main' := funext fun c => (hm c).trans (hm' c).symm
  exact hr

end Cert.Transport

end
-- ==== Proof.GateUp.Same.lean ====
module

public import proofs.«01_k».proof.Proof.Gen.Kernel.Launch
public import proofs.«01_k».proof.Proof.Gen.KernelIdeal.Launch
public import proofs.«01_k».proof.Proof.Transport

@[expose] public section

set_option maxRecDepth 16384
set_option maxHeartbeats 400000

noncomputable section

/-! The first kernel and its idealization have one text: a run of the one is a run of the other. -/

namespace Cert.GateUpSame

open Idealize.ShloMosaic Idealize.ShloMosaic.TcCoe Idealize.SL.Sem

variable {F : FTy → Type} [FloatOps F]

/-- The two programs' calls are the same pipeline, -/
theorem pcfgs_eq : KernelIdeal.pcfgs (F := F) = Kernel.pcfgs (F := F) := rfl

/-- with the same body, -/
theorem body_eq : KernelIdeal.cc0_moe_gate_up (F := F) = Kernel.cc0_moe_gate_up (F := F) := rfl

/-- in the same table. -/
theorem defs₀_eq : KernelIdeal.defs₀ (F := F) = Kernel.defs₀ (F := F) := by
  unfold Kernel.defs₀ KernelIdeal.defs₀
  refine congrArg (Defs.onTc (nD := Kernel.nD) (τ := Kernel.τ) (sig := Kernel.sig) (Λ := Kernel.Λ₀)) (funext fun (l : Fin 1) => funext fun x => ?_)
  match l, x with
  | 0, (t, s) => rfl

/-- The two programs' host operations, in stretches. -/
def opsI : List (List (HloOp KernelIdeal.τ KernelIdeal.sig (Elt F))) :=
  [KernelIdeal.Gen.hostOps0, KernelIdeal.Gen.hostOps0_1, KernelIdeal.Gen.hostOps0_2, KernelIdeal.Gen.hostOps0_3, KernelIdeal.Gen.hostOps0_4,
    KernelIdeal.Gen.hostOps0_5, KernelIdeal.Gen.hostOps0_6, KernelIdeal.Gen.hostOps0_7]
def opsK : List (List (HloOp Kernel.τ Kernel.sig (Elt F))) :=
  [Kernel.Gen.hostOps0, Kernel.Gen.hostOps0_1, Kernel.Gen.hostOps0_2, Kernel.Gen.hostOps0_3, Kernel.Gen.hostOps0_4,
    Kernel.Gen.hostOps0_5, Kernel.Gen.hostOps0_6, Kernel.Gen.hostOps0_7]

theorem host_eq : (KernelIdeal.Gen.hostOps0 (F := F)) = Kernel.Gen.hostOps0 (F := F) := rfl
theorem host_1_eq : (KernelIdeal.Gen.hostOps0_1 (F := F)) = Kernel.Gen.hostOps0_1 (F := F) := rfl
theorem host_2_eq : (KernelIdeal.Gen.hostOps0_2 (F := F)) = Kernel.Gen.hostOps0_2 (F := F) := rfl
theorem host_3_eq : (KernelIdeal.Gen.hostOps0_3 (F := F)) = Kernel.Gen.hostOps0_3 (F := F) := rfl
theorem host_4_eq : (KernelIdeal.Gen.hostOps0_4 (F := F)) = Kernel.Gen.hostOps0_4 (F := F) := rfl
theorem host_5_eq : (KernelIdeal.Gen.hostOps0_5 (F := F)) = Kernel.Gen.hostOps0_5 (F := F) := rfl
theorem host_6_eq : (KernelIdeal.Gen.hostOps0_6 (F := F)) = Kernel.Gen.hostOps0_6 (F := F) := rfl
theorem host_7_eq : (KernelIdeal.Gen.hostOps0_7 (F := F)) = Kernel.Gen.hostOps0_7 (F := F) := rfl

theorem ops_eq : (opsI (F := F)) = opsK (F := F) := by
  unfold opsI opsK
  rw [host_eq, host_1_eq, host_2_eq, host_3_eq, host_4_eq, host_5_eq, host_6_eq, host_7_eq]

/-- A run of the idealization's text is a run of the kernel's. -/
theorem run_kernel (s : MemSt Kernel.nD Kernel.τ Kernel.sig (Elt F)) (Q : PUnit × MemSt Kernel.nD Kernel.τ Kernel.sig (Elt F) → Prop)
    (hr : θ_run (KernelIdeal.defs (F := F)) (onTc (τ := KernelIdeal.τ) (KernelIdeal.main (F := F))) s Q) :
    θ_run (Kernel.defs (F := F)) (onTc (τ := Kernel.τ) (Kernel.main (F := F))) s Q :=
  Transport.run_of_same (KernelIdeal.pcfgs (F := F)) (Kernel.pcfgs (F := F)) pcfgs_eq KernelIdeal.defs₀ Kernel.defs₀ defs₀_eq
    opsI opsK ops_eq KernelIdeal.main Kernel.main (fun c => KernelIdeal.Gen.main_chain c) (fun c => Kernel.Gen.main_chain c) s Q hr

end Cert.GateUpSame

end
-- ==== Proof.GateUp.Body.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.VecWindow
public import Idealize.ShloMosaic.Lib.WordCmp

@[expose] public section

set_option maxRecDepth 16384

noncomputable section

namespace Cert.KernelIdeal.GateUp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The experts' table as the body is handed it. -/
abbrev teM : Memref sig .tc .smem S72 .i32 := Memref.whole main_v30
abbrev hteM : teM.IsWhole := Memref.isWhole_whole _
/-- The number of used tiles as the body is handed it. -/
abbrev nuM : Memref sig .tc .smem S1 .i32 := Memref.whole main_v32
abbrev hnuM : nuM.IsWhole := Memref.isWhole_whole _

/-- A table's contents on core `c`. -/
abbrev TbBuf (c : Dev nD) {S : Shape} {e : EltTy} (M : Memref sig .tc .smem S e) : Type := Buf (Elt F) (M.view.loc (c : Thread nD τ))
/-- A table held for reading: half the share of its buffer. -/
abbrev tbPt (c : Dev nD) {S : Shape} {e : EltTy} (M : Memref sig .tc .smem S e) (f : TbBuf (F := F) c M) : sProp 𝕄 :=
  M.view.loc (c : Thread nD τ) ↦{fullShare.right} f

/-- The index of tile `r` in the experts' table. -/
def ixT (r : Fin 72) : S72.Idx := fun a => match a with | 0 => r
/-- The one index of the table that holds the number of used tiles. -/
def ix0 : S1.Idx := fun a => match a with | 0 => (0 : Fin 1)
/-- The tile before `r` (tile 0's is tile 0). -/
def prevT (r : Fin 72) : Fin 72 := ⟨r.val - 1, by omega⟩

theorem pos1 : 0 < S1.numel := by rw [numel1_S1]; exact Nat.one_pos

/-- The body's read of the experts' table at its own tile. -/
theorem te_cur (pf : S72.Idx → BitVec 32) (i : grid0.Coords) (h : 0 < S1.numel) :
    pf ((Rect.unit (s := S72) (k0_off1 i) S1.size (k0_off1_inb i)).emb (Shape.Idx.first h)) = pf (ixT (i 1)) := by
  congr 1; funext a
  obtain rfl : a = 0 := Subsingleton.elim _ _
  have h72 : (i 1).val < 72 := (i 1).isLt
  apply Fin.ext
  show k0_off1 i 0 + 1 * 0 = (i 1).val
  unfold k0_off1
  show (BitVec.ofNat 32 (i 1).val).toNat + _ = _
  rw [BitVec.toNat_ofNat]; omega

/-- The body's read of the experts' table at the tile before its own. -/
theorem te_prev (pf : S72.Idx → BitVec 32) (i : grid0.Coords) (h : 0 < S1.numel) (h0 : (i 1).val ≠ 0) :
    pf ((Rect.unit (s := S72) (k0_off2 i) S1.size (k0_off2_inb i)).emb (Shape.Idx.first h)) = pf (ixT (prevT (i 1))) := by
  congr 1; funext a
  obtain rfl : a = 0 := Subsingleton.elim _ _
  have h72 : (i 1).val < 72 := (i 1).isLt
  apply Fin.ext
  show k0_off2 i 0 + 1 * 0 = (i 1).val - 1
  have key : ∀ n : Fin 72, n.val ≠ 0 → (IntOp.maxsi (BitVec.ofNat 32 n.val - 1#32) 0#32).toNat = n.val - 1 := by decide
  have := key (i 1) h0
  unfold k0_off2
  show (IntOp.maxsi (BitVec.ofNat 32 (i 1).val - 1#32) 0#32).toNat + _ = _
  omega

/-- The body's read of the number of used tiles. -/
theorem nu_cur (pf : S1.Idx → BitVec 32) (x : S1.Idx) : pf x = pf ix0 := by
  congr 1; funext a
  obtain rfl : a = 0 := Subsingleton.elim _ _
  exact Subsingleton.elim (α := Fin 1) _ _

/-- The weight blocks are kept only on a tile that is not the first of its column and has the expert of the tile before. -/
theorem keep_of (i : grid0.Coords) (a b : BitVec 32)
    (h : ¬ Scalar.cmpi .ne ((Scalar.extui (Scalar.ori (Scalar.cmpi .eq (BitVec.ofNat 32 (i 1).val) 0#32) (Scalar.cmpi .ne a b)) : BitVec 32)) 0#32 = 1#1) :
    (i 1).val ≠ 0 ∧ a = b := by
  have key : ∀ p q : Bool, ¬ IntOp.cmpi .ne (((IntOp.ori (BitVec.ofBool p) (BitVec.ofBool q))).setWidth 32) 0#32 = 1#1 → p = false ∧ q = false := by decide
  have h' := key (decide (BitVec.ofNat 32 (i 1).val = 0#32)) (decide (a ≠ b)) (by rw [← WordCmp.cmpi_eq_eq, ← WordCmp.cmpi_ne_eq]; exact h)
  have h1 := of_decide_eq_false h'.1
  have h2 := of_decide_eq_false h'.2
  refine ⟨fun e => h1 (by rw [e]), not_not.1 h2⟩

/-- The product is stored exactly where the zeros are not. -/
theorem cond3_iff (i : grid0.Coords) (v : BitVec 32) : k0_cond3 i v = 1#1 ↔ ¬ k0_cond2 i v = 1#1 := by
  unfold k0_cond2 k0_cond3
  show IntOp.cmpi .ne ((IntOp.cmpi .sge _ _).setWidth 32) 0#32 = 1#1 ↔ ¬ IntOp.cmpi .ne ((IntOp.cmpi .slt _ _).setWidth 32) 0#32 = 1#1
  rw [WordCmp.cmpi_sge_eq, WordCmp.cmpi_slt_eq]
  have key : ∀ p : Bool, IntOp.cmpi .ne ((BitVec.ofBool p).setWidth 32) 0#32 = 1#1 ↔ p = true := by decide
  rw [key, key, decide_eq_true_iff, decide_eq_true_iff, not_lt]

/-- What the body leaves in the output's block: the gated product of the tile's rows and its expert's weights on a used tile, zeros on the others. -/
def outv (i : grid0.Coords) (nu : BitVec 32) (x0 : Vec F S512x2048 .bf16) (x1 x2 : Vec F S1x1x2048x512 .f32) : Vec F S512x512 .bf16 :=
  if k0_cond2 i nu = 1#1 then k0_pay3 x0 (k0_pay1 x1) (k0_pay2 x2) else k0_pay4

set_option maxHeartbeats 1000000 in
/-- The body's triple, on whole memrefs: where the scratch holds the weight blocks' roundings whenever the body keeps it, it
    holds them afterwards, and the output block holds `outv`. -/
theorem body_run (c : Dev nD) (i : grid0.Coords)
    (arg4 : Memref sig .tc .vmem S512x2048 .bf16) (harg4 : arg4.IsWhole)
    (arg5 : Memref sig .tc .vmem S1x1x2048x512 .f32) (harg5 : arg5.IsWhole)
    (arg6 : Memref sig .tc .vmem S1x1x2048x512 .f32) (harg6 : arg6.IsWhole)
    (arg7 : Memref sig .tc .vmem S512x512 .bf16) (harg7 : arg7.IsWhole)
    (arg8 : Memref sig .tc .vmem S2048x512 .bf16) (harg8 : arg8.IsWhole)
    (arg9 : Memref sig .tc .vmem S2048x512 .bf16) (harg9 : arg9.IsWhole)
    (x0 : Vec F S512x2048 .bf16) (x1 x2 : Vec F S1x1x2048x512 .f32) (s8 s9 : Vec F S2048x512 .bf16)
    (t0 : TbBuf (F := F) c teM) (t1 : TbBuf (F := F) c nuM)
    (hkeep : (i 1).val ≠ 0 → t0 (ixT (i 1)) = t0 (ixT (prevT (i 1))) → s8 = k0_pay1 x1 ∧ s9 = k0_pay2 x2)
    (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ tbPt c teM t0 ∗ tbPt c nuM t1
        ∗ owns (c : Thread nD τ) arg8 fullShare s8 ∗ owns (c : Thread nD τ) arg9 fullShare s9
        ∗ (iprop(owns (c : Thread nD τ) arg4 fullShare x0 ∗ owns (c : Thread nD τ) arg5 fullShare x1 ∗ owns (c : Thread nD τ) arg6 fullShare x2
            ∗ owns (c : Thread nD τ) arg7 fullShare (outv i (t1 ix0) x0 x1 x2) ∗ tbPt c teM t0 ∗ tbPt c nuM t1
            ∗ owns (c : Thread nD τ) arg8 fullShare (k0_pay1 x1) ∗ owns (c : Thread nD τ) arg9 fullShare (k0_pay2 x2)) -∗ K ⟨⟩))
      ⊢ wp frame (wpE (defs₀ (F := F)) Variants.none c none) E
          (cc0_moe_gate_up i teM hteM nuM hnuM arg4 harg4 arg5 harg5 arg6 harg6 arg7 harg7 arg8 harg8 arg9 harg9) K := by
  simp only [cc0_moe_gate_up_eq_skeleton]; unfold cc0_moe_gate_up_skel
  unfold owns
  iintro ⟨⟨%f4, %hf4, H4⟩, ⟨%f5, %hf5, H5⟩, ⟨%f6, %hf6, H6⟩, ⟨%d7, %f7, -, H7⟩, HT0, HT1, ⟨%f8, %hf8, H8⟩, ⟨%f9, %hf9, H9⟩, Hk⟩
  obtain rfl := harg4.eq_unread hf4; obtain rfl := harg5.eq_unread hf5; obtain rfl := harg6.eq_unread hf6
  obtain rfl := harg8.eq_unread hf8; obtain rfl := harg9.eq_unread hf9
  sl_exec
  sl_step
  have r4 := (View.readAt_full arg4.view (harg4.unread x0) inb_S512x2048_S512x2048_0_0).trans hf4
  have r5 := (View.readAt_full arg5.view (harg5.unread x1) inb_S1x1x2048x512_S1x1x2048x512_0_0_0_0).trans hf5
  have r6 := (View.readAt_full arg6.view (harg6.unread x2) inb_S1x1x2048x512_S1x1x2048x512_0_0_0_0).trans hf6
  have e8 : arg8.view.read (Elt F) (if hc : body_run.sl.v10 c i t0 = 1#1 then
      arg8.view.writes (Elt F) (harg8.unread s8) [⟨Rect.unit ![0, 0] S2048x512.size inb_S2048x512_S2048x512_0_0,
        k0_pay1 (View.readAt (Elt F) arg5.view (Rect.unit ![0, 0, 0, 0] S1x1x2048x512.size inb_S1x1x2048x512_S1x1x2048x512_0_0_0_0).toLoadRect (harg5.unread x1))⟩]
      else harg8.unread s8) = k0_pay1 x1 := by
    split
    · rw [View.read_writes_full, r5]
    · rename_i hc
      obtain ⟨h0, h1⟩ := keep_of i _ _ hc
      exact hf8.trans (hkeep h0 ((te_cur t0 i pos1).symm.trans (h1.trans (te_prev t0 i pos1 h0)))).1
  have e9 : arg9.view.read (Elt F) (if hc : body_run.sl.v10 c i t0 = 1#1 then
      arg9.view.writes (Elt F) (harg9.unread s9) [⟨Rect.unit ![0, 0] S2048x512.size inb_S2048x512_S2048x512_0_0,
        k0_pay2 (View.readAt (Elt F) arg6.view (Rect.unit ![0, 0, 0, 0] S1x1x2048x512.size inb_S1x1x2048x512_S1x1x2048x512_0_0_0_0).toLoadRect (harg6.unread x2))⟩]
      else harg9.unread s9) = k0_pay2 x2 := by
    split
    · rw [View.read_writes_full, r6]
    · rename_i hc
      obtain ⟨h0, h1⟩ := keep_of i _ _ hc
      exact hf9.trans (hkeep h0 ((te_cur t0 i pos1).symm.trans (h1.trans (te_prev t0 i pos1 h0)))).2
  have v20 : body_run.sl.v20 c i arg5 harg5 arg8 harg8 x1 s8 t0 = k0_pay1 x1 := (View.readAt_full _ _ _).trans e8
  have v22 : body_run.sl.v22 c i arg6 harg6 arg9 harg9 x2 s9 t0 = k0_pay2 x2 := (View.readAt_full _ _ _).trans e9
  have hnu : body_run.sl.r_2 c t1 = t1 ix0 := nu_cur t1 _
  rw [v20, v22, r4, hnu]
  iapply Hk
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    unfold outv
    by_cases hc : k0_cond2 i (t1 ix0) = 1#1
    · rw [dif_neg (fun h => (cond3_iff i _).1 h hc), dif_pos hc, if_pos hc, View.read_writes_full]
    · rw [dif_pos ((cond3_iff i _).2 hc), if_neg hc, View.read_writes_full]
  isplitl [HT0]; · iexact HT0
  isplitl [HT1]; · iexact HT1
  isplitl [H8]
  · iexists _; isplitr; swap; · iexact H8
    ipureintro; exact e8
  · iexists _; isplitr; swap; · iexact H9
    ipureintro; exact e9

end Cert.KernelIdeal.GateUp

end
-- ==== Proof.Live.lean ====
module

public import Idealize.ShloMosaic.Lib.Pipeline.FrameBody

@[expose] public section

noncomputable section

namespace Cert.Live

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg BodyObligation)

variable {nD : Nat} {τ : Topo} {sig : RefSig} {Val : EltTy → Type} {Λ₀ : Idealize.SL.Sem.Labels}
variable {Ix : Type} [DecidableEq Ix] {Name : Type} [DecidableEq Name] {U : Type} [URA U] {Lvl : Type} [Preorder Lvl]

local notation "𝕄" => MT nD τ sig Ix Val Name U Lvl

/-- Where the body stores every window's block at every point, its obligation asks of every window's current buffer exactly
    what the proof data says the body leaves. -/
theorem obligation_of {cfg : Cfg sig Λ₀} {c : Dev nD} (dat : Dat τ Val Ix Name U Lvl cfg c) (defs₀ : Defs nD τ sig Val Λ₀)
    (𝒱₀ : Variants) (ι : Ix) (E : Set Name) (hid : ∀ (w : Fin cfg.W) (t : Fin cfg.N), cfg.idle w (cfg.grid.coords t) = false)
    (h : ∀ t : Fin cfg.N, iprop(dat.Φ t.castSucc ∗ dat.owesAt ι t.castSucc
        ∗ bigSep Finset.univ fun w : Fin cfg.W => iprop(∃ d, owns (c : Thread nD τ) ((cfg.win w).stage (cfg.slots t w)) fullShare (dat.before w t d)))
      ⊢ wp frame (wpE defs₀ 𝒱₀ (c : Thread nD τ) none) E (defs₀ .tc cfg.body (cfg.bodyArgs t (cfg.slots t))) fun _ =>
          iprop(dat.Φ t.succ ∗ dat.owesAt ι t.succ
            ∗ bigSep Finset.univ fun w : Fin cfg.W => owns (c : Thread nD τ) ((cfg.win w).stage (cfg.slots t w)) fullShare (dat.after w t))) :
    BodyObligation dat defs₀ 𝒱₀ ι E := fun t => by
  simp only [hid]
  exact h t

end Cert.Live
end
-- ==== Proof.GateUp.Pipe.lean ====
module

public import proofs.«01_k».proof.Proof.GateUp.Body
public import proofs.«01_k».proof.Proof.Live
public import Idealize.ShloMosaic.Lib.Pipeline.Value
public import Idealize.ShloMosaic.Lib.Claim
public import Idealize.ShloMosaic.Lib.ValueIdxCore

@[expose] public section

set_option maxRecDepth 16384

noncomputable section

namespace Cert.KernelIdeal.GateUp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1)

variable {F : FTy → Type} [FloatOps F]

local notation "𝕄" => MT nD τ sig Unit (Elt F) ℕ (UR sig nD τ) ℕ

variable (V : (c : Dev nD) → (b : Ref sig .tc) → Buf (Elt F) ((c : Thread nD τ).loc b)) (pf : pre0.Contents (Elt F))

/-! ## The blocks' places, at any tables whose experts are among the eight -/

/-- The expert of tile `r`. -/
abbrev ex (r : Fin 72) : ℕ := (pf 0 (ix1 r) : BitVec 32).toNat

theorem ixT_eq (r : Fin 72) : ixT r = ix1 r := eq_ix1 _

/-- Index map 1: the tile's expert and the column's gate block. -/
theorem t1_eq (i : grid0.Coords) : cc0_transform_1 k0_off1_inb numel1_S1 pf i = ![0, ex pf (i 1), 0, (i 0).val] := by
  have h0 : (i 0).val < 11 := (i 0).isLt
  have e : (pf.at 0 (Rect.unit (s := S72) (k0_off1 i) S1.size (k0_off1_inb i)) numel1_S1 : BitVec 32).toNat = ex pf (i 1) := by
    unfold Pipeline.Prefetch.Contents.at ex
    exact congrArg BitVec.toNat ((te_cur (pf 0) i _).trans (congrArg _ (ixT_eq _)))
  funext a
  match a with
  | 0 => rfl
  | 1 => exact e
  | 2 => rfl
  | 3 => show (BitVec.ofNat 32 (i 0).val).toNat = (i 0).val; rw [BitVec.toNat_ofNat]; omega

/-- Index map 2: the tile's expert and the column's up block. -/
theorem t2_eq (i : grid0.Coords) : cc0_transform_2 k0_off1_inb numel1_S1 pf i = ![0, ex pf (i 1), 0, (i 0).val + 11] := by
  have h0 : (i 0).val < 11 := (i 0).isLt
  have e : (pf.at 0 (Rect.unit (s := S72) (k0_off1 i) S1.size (k0_off1_inb i)) numel1_S1 : BitVec 32).toNat = ex pf (i 1) := by
    unfold Pipeline.Prefetch.Contents.at ex
    exact congrArg BitVec.toNat ((te_cur (pf 0) i _).trans (congrArg _ (ixT_eq _)))
  funext a
  match a with
  | 0 => rfl
  | 1 => exact e
  | 2 => rfl
  | 3 => show (BitVec.ofNat 32 (i 0).val + 11#32).toNat = (i 0).val + 11; rw [BitVec.toNat_add, BitVec.toNat_ofNat, show (11#32).toNat = 11 from rfl]; omega

/-- Index maps 0 and 3: the tile's rows, and the tile's rows and the column's block. -/
theorem t0_eq (i : grid0.Coords) : cc0_transform_0 i = ![(i 1).val, 0] := by
  have h0 : (i 1).val < 72 := (i 1).isLt
  funext a
  match a with
  | 0 => show (BitVec.ofNat 32 (i 1).val).toNat = (i 1).val; rw [BitVec.toNat_ofNat]; omega
  | 1 => rfl
theorem t3_eq (i : grid0.Coords) : cc0_transform_3 i = ![(i 1).val, (i 0).val] := by
  have h0 : (i 0).val < 11 := (i 0).isLt
  have h1 : (i 1).val < 72 := (i 1).isLt
  funext a
  match a with
  | 0 => show (BitVec.ofNat 32 (i 1).val).toNat = (i 1).val; rw [BitVec.toNat_ofNat]; omega
  | 1 => show (BitVec.ofNat 32 (i 0).val).toNat = (i 0).val; rw [BitVec.toNat_ofNat]; omega

/-- It holds of tables whose tiles' experts are among the eight. -/
theorem ok_of (hle : ∀ r, ex pf r ≤ 7) : ok0 (F := F) pf := by
  refine ⟨fun i => ⟨?_, .inl rfl⟩, fun i => ⟨?_, .inl rfl⟩⟩
  · have h0 : (i 0).val < 11 := (i 0).isLt
    have hr := hle (i 1)
    rw [t1_eq pf]; intro a
    match a with
    | 0 => show (0 + 1) * 1 ≤ 2; omega
    | 1 => show (ex pf (i 1) + 1) * 1 ≤ 8; omega
    | 2 => show (0 + 1) * 2048 ≤ 2048; omega
    | 3 => show ((i 0).val + 1) * 512 ≤ 11264; omega
  · have h0 : (i 0).val < 11 := (i 0).isLt
    have hr := hle (i 1)
    rw [t2_eq pf]; intro a
    match a with
    | 0 => show (0 + 1) * 1 ≤ 2; omega
    | 1 => show (ex pf (i 1) + 1) * 1 ≤ 8; omega
    | 2 => show (0 + 1) * 2048 ≤ 2048; omega
    | 3 => show ((i 0).val + 11 + 1) * 512 ≤ 11264; omega

variable (hO : ok0 (F := F) pf)

/-- The pipeline at the tables. -/
abbrev cfgM : Pipeline.Cfg sig Λ₀ := cfg0 ⟨pf, hO⟩

/-- The halves of the tables that the body is handed. -/
theorem PhiT_eq (c : Dev nD) : (Pipeline.ΦT pre0 pf c : sProp 𝕄) = iprop(tbPt c teM (pf 0) ∗ tbPt c nuM (pf 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array. -/
def iblk (c : Dev nD) (w : Fin (cfgM pf hO).W) (t : Fin (cfgM pf hO).N) : (((cfgM pf hO).win w).xblock ((cfgM pf hO).grid.coords t)).Idx → Elt F ((cfgM pf hO).win w).elt :=
  (((cfgM pf hO).win w).blk t).view.read (Elt F) (V c (Pipeline.arrRef spec0 w))

theorem before0_of {c : Dev nD} (dat : Dat τ (Elt F) Unit ℕ (UR sig nD τ) ℕ (cfgM pf hO) c) (hA : dat.A 0 = V c (Pipeline.arrRef spec0 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM pf hO) c) (hA : dat.A 1 = V c (Pipeline.arrRef spec0 1))
    (hafter : ∀ t, dat.after 1 t = iblk V pf hO c 1 t) (t : Fin (cfgM pf hO).N) (d) : dat.before 1 t d = iblk V pf hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ (cfgM pf hO) c) (hA : dat.A 2 = V c (Pipeline.arrRef spec0 2))
    (hafter : ∀ t, dat.after 2 t = iblk V pf hO c 2 t) (t : Fin (cfgM pf hO).N) (d) : dat.before 2 t d = iblk V pf hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Where the tile's rows sit in the rows' array. -/
theorem iblk0_apply (c : Dev nD) (t : Fin (cfgM pf hO).N) (y : S512x2048.Idx) (k : S36864x2048.Idx)
    (h0 : (k 0).val = (grid0.coords t 1).val * 512 + (y 0).val) (h1 : (k 1).val = (y 1).val) :
    iblk V pf hO c 0 t y = V c main_arg1 k := by
  show V c main_arg1 ((((cfgM pf hO).win 0).rect t).emb y) = _
  refine congrArg (V c main_arg1) (funext fun (a : Fin 2) => Fin.ext ((Window.rect_emb_val ((cfgM pf hO).win 0) t y a).trans ?_))
  show cc0_transform_0 (grid0.coords t) a * S512x2048.size a + (y a).val = _
  rw [t0_eq]
  match a with
  | 0 => exact h0.symm
  | 1 => exact (Nat.zero_add _).trans h1.symm

/-- Where the gate block of a point sits in the weights' array. -/
theorem iblk1_apply (c : Dev nD) (t : Fin (cfgM pf hO).N) (y : S1x1x2048x512.Idx) (k : S2x8x2048x11264.Idx)
    (h0 : (k 0).val = 0) (h1 : (k 1).val = ex pf (grid0.coords t 1)) (h2 : (k 2).val = (y 2).val)
    (h3 : (k 3).val = (grid0.coords t 0).val * 512 + (y 3).val) :
    iblk V pf hO c 1 t y = V c main_arg2 k := by
  show V c main_arg2 ((((cfgM pf hO).win 1).rect t).emb y) = _
  refine congrArg (V c main_arg2) (funext fun (a : Fin 4) => Fin.ext ((Window.rect_emb_val ((cfgM pf hO).win 1) t y a).trans ?_))
  show cc0_transform_1 k0_off1_inb numel1_S1 pf (grid0.coords t) a * S1x1x2048x512.size a + (y a).val = _
  rw [t1_eq pf]
  have y0 : (y 0).val < 1 := (y 0).isLt
  have y1 : (y 1).val < 1 := (y 1).isLt
  match a with
  | 0 => show 0 * 1 + (y 0).val = (k 0).val; omega
  | 1 => show ex pf (grid0.coords t 1) * 1 + (y 1).val = (k 1).val; omega
  | 2 => show 0 * 2048 + (y 2).val = (k 2).val; omega
  | 3 => exact h3.symm

/-- Where the up block of a point sits in the weights' array. -/
theorem iblk2_apply (c : Dev nD) (t : Fin (cfgM pf hO).N) (y : S1x1x2048x512.Idx) (k : S2x8x2048x11264.Idx)
    (h0 : (k 0).val = 0) (h1 : (k 1).val = ex pf (grid0.coords t 1)) (h2 : (k 2).val = (y 2).val)
    (h3 : (k 3).val = ((grid0.coords t 0).val + 11) * 512 + (y 3).val) :
    iblk V pf hO c 2 t y = V c main_arg2 k := by
  show V c main_arg2 ((((cfgM pf hO).win 2).rect t).emb y) = _
  refine congrArg (V c main_arg2) (funext fun (a : Fin 4) => Fin.ext ((Window.rect_emb_val ((cfgM pf hO).win 2) t y a).trans ?_))
  show cc0_transform_2 k0_off1_inb numel1_S1 pf (grid0.coords t) a * S1x1x2048x512.size a + (y a).val = _
  rw [t2_eq pf]
  have y0 : (y 0).val < 1 := (y 0).isLt
  have y1 : (y 1).val < 1 := (y 1).isLt
  match a with
  | 0 => show 0 * 1 + (y 0).val = (k 0).val; omega
  | 1 => show ex pf (grid0.coords t 1) * 1 + (y 1).val = (k 1).val; omega
  | 2 => show 0 * 2048 + (y 2).val = (k 2).val; omega
  | 3 => exact h3.symm

/-- An index of the weights' array from its coordinates. -/
def wix (e : Fin 8) (x : Fin 2048) (f : Fin 11264) : S2x8x2048x11264.Idx :=
  fun a => match a with | 0 => (0 : Fin 2) | 1 => e | 2 => x | 3 => f

/-- Two points of one column whose tiles have one expert have the same weight blocks. -/
theorem iblk_same (hle : ∀ r, ex pf r ≤ 7) (c : Dev nD) (s t : Fin (cfgM pf hO).N) (h0 : grid0.coords s 0 = grid0.coords t 0)
    (he : ex pf (grid0.coords s 1) = ex pf (grid0.coords t 1)) :
    (iblk V pf hO c 1 s : Vec F S1x1x2048x512 .f32) = iblk V pf hO c 1 t ∧ (iblk V pf hO c 2 s : Vec F S1x1x2048x512 .f32) = iblk V pf hO c 2 t := by
  have hj : (grid0.coords t 0).val < 11 := (grid0.coords t 0).isLt
  have hr := hle (grid0.coords t 1)
  refine ⟨funext fun (y : S1x1x2048x512.Idx) => ?_, funext fun (y : S1x1x2048x512.Idx) => ?_⟩
  · have y2 : (y 2).val < 2048 := (y 2).isLt
    have y3 : (y 3).val < 512 := (y 3).isLt
    let k := wix ⟨ex pf (grid0.coords t 1), by omega⟩ ⟨(y 2).val, y2⟩ ⟨(grid0.coords t 0).val * 512 + (y 3).val, by omega⟩
    rw [iblk1_apply V pf hO c s y k rfl he.symm rfl (by rw [h0]; rfl), iblk1_apply V pf hO c t y k rfl rfl rfl rfl]
  · have y2 : (y 2).val < 2048 := (y 2).isLt
    have y3 : (y 3).val < 512 := (y 3).isLt
    let k := wix ⟨ex pf (grid0.coords t 1), by omega⟩ ⟨(y 2).val, y2⟩ ⟨((grid0.coords t 0).val + 11) * 512 + (y 3).val, by omega⟩
    rw [iblk2_apply V pf hO c s y k rfl he.symm rfl (by rw [h0]; rfl), iblk2_apply V pf hO c t y k rfl rfl rfl rfl]

/-- A point's column and tile. -/
theorem coord0 (t : Fin grid0.N) : (grid0.coords t 0).val = t.val / 72 % 11 := Pipeline.Grid.coords_val t 0 (by decide) rfl
theorem coord1 (t : Fin grid0.N) : (grid0.coords t 1).val = t.val / 1 % 72 := Pipeline.Grid.coords_val t 1 (by decide) rfl

/-- The point before one that is not the first of its column: the same column, the tile before. -/
theorem prev_point (t : Fin grid0.N) (h0 : (grid0.coords t 1).val ≠ 0) :
    ∃ s : Fin grid0.N, s.val + 1 = t.val ∧ grid0.coords s 0 = grid0.coords t 0 ∧ grid0.coords s 1 = prevT (grid0.coords t 1) := by
  have hN : t.val < 792 := lt_of_lt_of_eq t.isLt N_0
  have c0 := coord0 t
  have c1 := coord1 t
  obtain ⟨n, hn⟩ : ∃ n, n + 1 = t.val := ⟨t.val - 1, by omega⟩
  refine ⟨⟨n, by rw [N_0]; omega⟩, hn, Fin.ext ?_, Fin.ext ?_⟩
  · rw [coord0, coord0]; show n / 72 % 11 = _; omega
  · rw [coord1]; show n / 1 % 72 = (grid0.coords t 1).val - 1; omega

/-! ## The pipeline's proof data -/

/-- The two roundings of the weight blocks that the body keeps from the point before. -/
def Kept (c : Dev nD) (n : ℕ) (s8 s9 : Vec F S2048x512 .bf16) : Prop :=
  ∀ s : Fin grid0.N, s.val + 1 = n → s8 = k0_pay1 (iblk V pf hO c 1 s) ∧ s9 = k0_pay2 (iblk V pf hO c 2 s)

/-- The invariant before point `t`: the scratch holds the roundings of the point before. -/
def Phi (c : Dev nD) (t : Fin ((cfgM pf hO).N + 1)) : sProp 𝕄 :=
  iprop((∃ s8 s9, ⌜Kept V pf hO c t.val s8 s9⌝ ∗ owns (c : Thread nD τ) (Memref.whole cc0_scratch0) fullShare s8 ∗ owns (c : Thread nD τ) (Memref.whole cc0_scratch1) fullShare s9)
    ∗ (∃ r, prngReg c r) ∗ tbPt c teM (pf 0) ∗ tbPt c nuM (pf 1))

/-- What the output's block holds after point `t`. -/
def outAt (c : Dev nD) (t : Fin (cfgM pf hO).N) : Vec F S512x512 .bf16 :=
  outv (grid0.coords t) (pf 1 ix0) (iblk V pf hO c 0 t) (iblk V pf hO c 1 t) (iblk V pf hO c 2 t)

/-- The proof data of the pipeline on core `c`. -/
def dats (_ : Fin 1) (c : Dev nD) : Dat τ (Elt F) Unit ℕ (UR sig nD τ) ℕ (cfgM pf hO) c where
  A w := V c (Pipeline.arrRef spec0 w)
  after w t := match w with
    | ⟨0, _⟩ => iblk V pf hO c 0 t
    | ⟨1, _⟩ => iblk V pf hO c 1 t
    | ⟨2, _⟩ => iblk V pf hO c 2 t
    | ⟨3, _⟩ => outAt V pf hO c t
  Φ t := Phi V pf hO c t
  q := Pipeline.shareOf spec0
  owed _ := 0

theorem A_eq (c : Dev nD) (w : Fin (cfgM pf hO).W) : (dats V pf hO 0 c).A w = V c (Pipeline.arrRef spec0 w) := by
  dsimp only [dats]
theorem after0 (c : Dev nD) (t : Fin (cfgM pf hO).N) : (dats V pf hO 0 c).after 0 t = iblk V pf hO c 0 t := by dsimp only [dats]; try rfl
theorem after1 (c : Dev nD) (t : Fin (cfgM pf hO).N) : (dats V pf hO 0 c).after 1 t = iblk V pf hO c 1 t := by dsimp only [dats]; try rfl
theorem after2 (c : Dev nD) (t : Fin (cfgM pf hO).N) : (dats V pf hO 0 c).after 2 t = iblk V pf hO c 2 t := by dsimp only [dats]; try rfl
theorem after3 (c : Dev nD) (t : Fin (cfgM pf hO).N) : (dats V pf hO 0 c).after 3 t = outAt V pf hO c t := by dsimp only [dats]; try rfl
theorem before0 (c : Dev nD) (t : Fin (cfgM pf hO).N) (d) : (dats V pf hO 0 c).before 0 t d = iblk V pf hO c 0 t := before0_of V pf hO _ (A_eq V pf hO c 0) (after0 V pf hO c) t d
theorem before1 (c : Dev nD) (t : Fin (cfgM pf hO).N) (d) : (dats V pf hO 0 c).before 1 t d = iblk V pf hO c 1 t := before1_of V pf hO _ (A_eq V pf hO c 1) (after1 V pf hO c) t d
theorem before2 (c : Dev nD) (t : Fin (cfgM pf hO).N) (d) : (dats V pf hO 0 c).before 2 t d = iblk V pf hO c 2 t := before2_of V pf hO _ (A_eq V pf hO c 2) (after2 V pf hO c) t d

/-- The current staging buffers, and the body at point `t` on them. -/
abbrev ms0 (t : Fin (cfgM pf hO).N) : Memref sig .tc .vmem S512x2048 .bf16 := spec0_0.stage ((cfgM pf hO).slots t 0)
abbrev ms1 (t : Fin (cfgM pf hO).N) : Memref sig .tc .vmem S1x1x2048x512 .f32 := spec0_1.stage ((cfgM pf hO).slots t 1)
abbrev ms2 (t : Fin (cfgM pf hO).N) : Memref sig .tc .vmem S1x1x2048x512 .f32 := spec0_2.stage ((cfgM pf hO).slots t 2)
abbrev ms3 (t : Fin (cfgM pf hO).N) : Memref sig .tc .vmem S512x512 .bf16 := spec0_3.stage ((cfgM pf hO).slots t 3)
abbrev bodyAt (t : Fin (cfgM pf hO).N) : Prog (TpuEff nD τ sig (Elt F) Λ₀ .tc) PUnit :=
  cc0_moe_gate_up (grid0.coords t) teM hteM nuM hnuM (ms0 pf hO t) (hstage0_0 (((cfgM pf hO).slots t 0).cast nbuf0_0))
    (ms1 pf hO t) (hstage0_1 (((cfgM pf hO).slots t 1).cast nbuf0_1)) (ms2 pf hO t) (hstage0_2 (((cfgM pf hO).slots t 2).cast nbuf0_2))
    (ms3 pf hO t) (hstage0_3 (((cfgM pf hO).slots t 3).cast nbuf0_3)) (Memref.whole cc0_scratch0) (Memref.isWhole_whole _)
    (Memref.whole cc0_scratch1) (Memref.isWhole_whole _)

def bodyPre (c : Dev nD) (t : Fin (cfgM pf hO).N) : sProp 𝕄 :=
  iprop((dats V pf hO 0 c).Φ t.castSucc ∗ (dats V pf hO 0 c).owesAt () t.castSucc
    ∗ (∃ d, owns (c : Thread nD τ) (ms0 pf hO t) fullShare ((dats V pf hO 0 c).before 0 t d))
    ∗ (∃ d, owns (c : Thread nD τ) (ms1 pf hO t) fullShare ((dats V pf hO 0 c).before 1 t d))
    ∗ (∃ d, owns (c : Thread nD τ) (ms2 pf hO t) fullShare ((dats V pf hO 0 c).before 2 t d))
    ∗ (∃ d, owns (c : Thread nD τ) (ms3 pf hO t) fullShare ((dats V pf hO 0 c).before 3 t d)))
def bodyPost (c : Dev nD) (t : Fin (cfgM pf hO).N) : sProp 𝕄 :=
  iprop((dats V pf hO 0 c).Φ t.succ ∗ (dats V pf hO 0 c).owesAt () t.succ
    ∗ owns (c : Thread nD τ) (ms0 pf hO t) fullShare ((dats V pf hO 0 c).after 0 t)
    ∗ owns (c : Thread nD τ) (ms1 pf hO t) fullShare ((dats V pf hO 0 c).after 1 t)
    ∗ owns (c : Thread nD τ) (ms2 pf hO t) fullShare ((dats V pf hO 0 c).after 2 t)
    ∗ owns (c : Thread nD τ) (ms3 pf hO t) fullShare ((dats V pf hO 0 c).after 3 t))

/-- On a tile that is not the first of its column and has the expert of the tile before, what the scratch holds are the
    roundings of the point's own blocks. -/
theorem kept_here (hle : ∀ r, ex pf r ≤ 7) (c : Dev nD) (t : Fin (cfgM pf hO).N) (s8 s9 : Vec F S2048x512 .bf16) (hk : Kept V pf hO c t.val s8 s9)
    (h0 : (grid0.coords t 1).val ≠ 0) (he : pf 0 (ixT (grid0.coords t 1)) = pf 0 (ixT (prevT (grid0.coords t 1)))) :
    s8 = k0_pay1 (iblk V pf hO c 1 t) ∧ s9 = k0_pay2 (iblk V pf hO c 2 t) := by
  obtain ⟨s, hs, e0, e1⟩ := prev_point t h0
  obtain ⟨e8, e9⟩ := hk s hs
  have q : pf 0 (ix1 (grid0.coords s 1)) = pf 0 (ix1 (grid0.coords t 1)) :=
    (congrArg (fun r : Fin 72 => pf 0 (ix1 r)) e1).trans (((congrArg (fun x : S72.Idx => pf 0 x) (ixT_eq _)).symm.trans he.symm).trans
      (congrArg (fun x : S72.Idx => pf 0 x) (ixT_eq _)))
  obtain ⟨b1, b2⟩ := iblk_same V pf hO hle c s t e0 (congrArg BitVec.toNat q)
  exact ⟨e8.trans (congrArg k0_pay1 b1), e9.trans (congrArg k0_pay2 b2)⟩

set_option maxHeartbeats 1000000 in
/-- The body at any point. -/
theorem sound_body (hle : ∀ r, ex pf r ≤ 7) (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before0, before1, before2]
  rw [show (dats V pf hO 0 c).owesAt () t.succ = (dats V pf hO 0 c).owesAt () t.castSucc from rfl, after0, after1, after2, after3]
  rw [show (dats V pf hO 0 c).Φ t.castSucc = Phi V pf hO c t.castSucc from rfl, show (dats V pf hO 0 c).Φ t.succ = Phi V pf hO c t.succ from rfl]
  unfold Phi
  rw [Fin.val_castSucc, Fin.val_succ]
  iintro ⟨⟨⟨%s8, %s9, %hk, H8, H9⟩, Hr, HT0, HT1⟩, Ho, ⟨%d0, H0⟩, ⟨%d1, H1⟩, ⟨%d2, H2⟩, ⟨%d3, H3⟩⟩
  iapply (body_run c (grid0.coords t) _ _ _ _ _ _ _ _ _ _ _ _ (iblk V pf hO c 0 t) (iblk V pf hO c 1 t) (iblk V pf hO c 2 t) s8 s9 (pf 0) (pf 1)
    (kept_here V pf hO hle c t s8 s9 hk) Set.univ _)
  isplitl [H0]; · iexact H0
  isplitl [H1]; · iexact H1
  isplitl [H2]; · iexact H2
  isplitl [H3]; · iexists _; iexact H3
  isplitl [HT0]; · iexact HT0
  isplitl [HT1]; · iexact HT1
  isplitl [H8]; · iexact H8
  isplitl [H9]; · iexact H9
  iintro ⟨H0, H1, H2, H3, HT0, HT1, H8, H9⟩
  isplitl [H8 H9 Hr HT0 HT1]
  · isplitl [H8 H9]
    · iexists _; iexists _
      isplitr
      · ipureintro
        intro s hs
        obtain rfl : s = t := Fin.ext (Nat.succ_injective hs)
        exact ⟨rfl, rfl⟩
      isplitl [H8]; · iexact H8
      iexact H9
    isplitl [Hr]; · iexact Hr
    isplitl [HT0]; · iexact HT0
    iexact HT1
  isplitl [Ho]; · iexact Ho
  isplitl [H0]; · iexact H0
  isplitl [H1]; · iexact H1
  isplitl [H2]; · iexact H2
  iexact H3

/-- The body table's row is the body at the point. -/
theorem defs₀_row (t : Fin (cfgM pf hO).N) :
    defs₀ (F := F) .tc (cfgM pf hO).body ((cfgM pf hO).bodyArgs t ((cfgM pf hO).slots t)) = bodyAt pf hO t := by
  unfold defs₀; rw [Defs.onTc_tc]

/-- The body stores the output's block at every point. -/
theorem idle3 (i : grid0.Coords) : idle0 pf 3 i = false := by
  show (!(k0_cond2 i (pf.atD 1 ![0]) == 1#1) && !(k0_cond3 i (pf.atD 1 ![0]) == 1#1)) = false
  have := cond3_iff i (pf.atD 1 ![0])
  by_cases h : k0_cond2 i (pf.atD 1 ![0]) = 1#1
  · rw [h]; rfl
  · rw [this.2 h]; simp

theorem idle_none (w : Fin (cfgM pf hO).W) (t : Fin (cfgM pf hO).N) : (cfgM pf hO).idle w ((cfgM pf hO).grid.coords t) = false :=
  match w with
  | ⟨0, _⟩ => rfl
  | ⟨1, _⟩ => rfl
  | ⟨2, _⟩ => rfl
  | ⟨3, _⟩ => idle3 pf _

theorem body_obligation (hle : ∀ r, ex pf r ≤ 7) (c : Dev nD) : BodyObligation (dats (F := F) V pf hO 0 c) (defs₀ (F := F)) Variants.none () Set.univ :=
  Live.obligation_of _ _ _ _ _ (idle_none pf hO) fun t => by
    rw [bigSep_W0, bigSep_W0, defs₀_row pf hO]
    exact triple_restated (sound_body V pf hO hle c t) rfl .rfl fun _ => .rfl

/-! ## The run -/

theorem scr8_in (c : Dev nD) (f : Vec F S2048x512 .bf16) :
    (((c : Thread nD τ).loc cc0_scratch0 ↦{fullShare} f : sProp 𝕄)) ⊢ owns (c : Thread nD τ) (Memref.whole cc0_scratch0) fullShare f := by rw [owns_whole]
theorem scr9_in (c : Dev nD) (f : Vec F S2048x512 .bf16) :
    (((c : Thread nD τ).loc cc0_scratch1 ↦{fullShare} f : sProp 𝕄)) ⊢ owns (c : Thread nD τ) (Memref.whole cc0_scratch1) fullShare f := by rw [owns_whole]
theorem scr8_out (c : Dev nD) (f : Vec F S2048x512 .bf16) :
    owns (c : Thread nD τ) (Memref.whole cc0_scratch0) fullShare f ⊢ (((c : Thread nD τ).loc cc0_scratch0 ↦{fullShare} f : sProp 𝕄)) := by rw [owns_whole]
theorem scr9_out (c : Dev nD) (f : Vec F S2048x512 .bf16) :
    owns (c : Thread nD τ) (Memref.whole cc0_scratch1) fullShare f ⊢ (((c : Thread nD τ).loc cc0_scratch1 ↦{fullShare} f : sProp 𝕄)) := by rw [owns_whole]

theorem hin (c : Dev nD) : iprop(Pipeline.ΦA spec0 c ∗ Pipeline.ΦT pre0 pf c) ⊢ (dats V pf hO 0 c).Φ 0 := by
  rw [PhiT_eq, show (dats V pf hO 0 c).Φ 0 = Phi V pf hO c 0 from rfl]
  unfold Pipeline.ΦA Phi
  rw [scopedRest0_eq]
  iintro ⟨⟨⟨⟨%f8, H8⟩, ⟨%f9, H9⟩⟩, Hr⟩, HT0, HT1⟩
  isplitl [H8 H9]
  · iexists f8; iexists f9
    isplitr
    · ipureintro; intro s hs; exact absurd hs (Nat.succ_ne_zero _)
    isplitl [H8]
    · iapply (scr8_in c f8); iexact H8
    · iapply (scr9_in c f9); iexact H9
  isplitl [Hr]; · iexact Hr
  isplitl [HT0]; · iexact HT0
  iexact HT1

theorem hout (c : Dev nD) : (dats V pf hO 0 c).Φ (Fin.last (cfgM pf hO).N) ⊢ Pipeline.ΦA spec0 c := by
  rw [show (dats V pf hO 0 c).Φ (Fin.last (cfgM pf hO).N) = Phi V pf hO c (Fin.last (cfgM pf hO).N) from rfl]
  unfold Pipeline.ΦA Phi
  rw [scopedRest0_eq]
  iintro ⟨⟨%s8, %s9, -, H8, H9⟩, Hr, -, -⟩
  isplitl [H8 H9]
  · isplitl [H8]
    · iexists s8; iapply (scr8_out c s8); iexact H8
    · iexists s9; iapply (scr9_out c s9); iexact H9
  iexact Hr

end Cert.KernelIdeal.GateUp
end
-- ==== Proof.PlanDefs.lean ====
module

public import proofs.«01_k».proof.Proof.Gen.KernelIdeal
public import Idealize.ShloMosaic.Lib.Routing.Ops

@[expose] public section

set_option maxRecDepth 16384

noncomputable section

/-! The tile plan of the routed products as functions of the chosen experts: how many pairs each expert has, where its
    rows end when every expert's rows are rounded up to whole tiles of 512, which expert a tile belongs to, and how many
    tiles are used. The kernels' host code and the references compute these in their own ways. -/

namespace Cert.Plan

open Idealize.ShloMosaic Cert.KernelIdeal Cert.KernelIdeal.Gen

/-- The mask that says, for each (token, choice) pair and each expert, whether the pair chose the expert. -/
def chosen (x : IVec S16384x2 32) : IVec S32768x8 1 :=
  cmpi .eq (broadcastInDim S32768x8 ![0, 1] bcast_S32768x1_S32768x8_0_1 (broadcastInDim S32768x1 ![0] bcast_S32768_S32768x1_0 (shapeCast S32768 x shapeCasts_S16384x2_S32768)))
    (broadcastInDim S32768x8 ![0, 1] bcast_S1x8_S32768x8_0_1 (broadcastInDim S1x8 ![1] bcast_S8_S1x8_1 (iotaInDim S8 32 0)))

/-- The number of pairs of each expert, as the kernels' host code counts them: the last row of the running sums of the mask. -/
def counts (x : IVec S16384x2 32) : IVec S8 32 :=
  shapeCast S8 (extractStridedSlice S1x8 ![32767, 0] (Host.reduceWindow IntOp.addi ![32768, 1] ![1, 1] ![32767, 0] ![0, 0] (extui 32 (chosen x) natLt_1_32)
    (broadcastInDim S_ ![] bcast_S_S_ (constantI S_ 32 0#32)) reduceWindows_S32768x8_S32768x8_w32768s1p32767_0_w1s1p0_0 h_S_) slices_S32768x8_S1x8_32767_0) shapeCasts_S1x8_S8

/-- Division by 512 rounded to the floor, entry by entry, as the host spells it. -/
def floorDiv (s : Shape) (hb : S_.BroadcastsInDim s (![] : Fin 0 → Fin s.rank)) (x : IVec s 32) : IVec s 32 :=
  select (andi (cmpi .ne (signi x) (broadcastInDim s ![] hb (signi (constantI S_ 32 512#32))))
      (cmpi .ne (Host.remsi x (broadcastInDim s ![] hb (constantI S_ 32 512#32))) (broadcastInDim s ![] hb (constantI S_ 32 0#32))))
    (subi (Host.divsi x (broadcastInDim s ![] hb (constantI S_ 32 512#32))) (broadcastInDim s ![] hb (constantI S_ 32 1#32)))
    (Host.divsi x (broadcastInDim s ![] hb (constantI S_ 32 512#32)))

/-- Where each expert's rows end: the running sums of 512 times the experts' numbers of tiles. -/
def endsOf (d : IVec S8 32) : IVec S8 32 :=
  Host.reduceWindow IntOp.addi ![8] ![1] ![7] ![0] (muli d (broadcastInDim S8 ![] bcast_S_S8 (constantI S_ 32 512#32)))
    (broadcastInDim S_ ![] bcast_S_S_ (constantI S_ 32 0#32)) reduceWindows_S8_S8_w8s1p7_0 h_S_

/-- The ends, from the chosen experts, by the kernels' host code. -/
def ends (x : IVec S16384x2 32) : IVec S8 32 :=
  endsOf (floorDiv S8 bcast_S_S8 (subi (addi (counts x) (broadcastInDim S8 ![] bcast_S_S8 (constantI S_ 32 512#32)))
    (broadcastInDim S8 ![] bcast_S_S8 (constantI S_ 32 1#32))))

/-- For each tile the number of experts whose rows end at or before it. -/
def tilePast (E : IVec S8 32) : IVec S72 32 :=
  Host.reduce IntOp.addi (extui 32 (cmpi .sge
    (broadcastInDim S72x8 ![0, 1] bcast_S72x1_S72x8_0_1 (broadcastInDim S72x1 ![0] bcast_S72_S72x1_0 (muli (iotaInDim S72 32 0) (broadcastInDim S72 ![] bcast_S_S72 (constantI S_ 32 512#32)))))
    (broadcastInDim S72x8 ![0, 1] bcast_S1x8_S72x8_0_1 (broadcastInDim S1x8 ![1] bcast_S8_S1x8_1 E))) natLt_1_32) (constantI S_ 32 0#32) reducesTo_S72x8_S72_d1 h_S_

/-- The expert of each tile. -/
def te (E : IVec S8 32) : IVec S72 32 := minsi (tilePast E) (broadcastInDim S72 ![] bcast_S_S72 (constantI S_ 32 7#32))

/-- The number of used tiles. -/
def nu (E : IVec S8 32) : IVec S1 32 := floorDiv S1 bcast_S_S1 (extractStridedSlice S1 ![7] E slices_S8_S1_7)

end Cert.Plan
end
-- ==== Proof.GateUp.Host.lean ====
module

public import proofs.«01_k».proof.Proof.Gen.KernelIdeal.Launch
public import proofs.«01_k».proof.Proof.PlanDefs
public import Idealize.ShloMosaic.Lib.Pipeline.FrameBody

@[expose] public section

set_option maxRecDepth 16384

noncomputable section

namespace Cert.KernelIdeal.GateUp

open Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

/-- The host operations before the call, stretch by stretch. -/
abbrev pre : List (List (HloOp τ sig (Elt F))) :=
  [hostOps0, hostOps0_1, hostOps0_2, hostOps0_3, hostOps0_4, hostOps0_5, hostOps0_6, hostOps0_7]

/-- A core's buffers when the call is reached: what the host operations leave of the launch contents. -/
def Vd (c : Dev nD) : Valuation τ sig (Elt F) := after pre.flatten (fun b => m (c, b))

/-- The chosen experts at launch. -/
abbrev topIdx (c : Dev nD) : IVec S16384x2 32 := m (c, Proc.devRef .tc main_arg0)

set_option maxHeartbeats 4000000 in
/-- When the call is reached the first table holds the tiles' experts. -/
theorem Vd_te (c : Dev nD) : Vd m c (Proc.devRef .tc main_v30) = Plan.te (Plan.ends (topIdx m c)) := by
  unfold Vd
  simp only [pre, List.flatten_cons, List.flatten_nil, List.append_nil, after_append]
  simp only [hostOps0, hostOps0_1, hostOps0_2, hostOps0_3, hostOps0_4, hostOps0_5, hostOps0_6, hostOps0_7, TRef.binary, TRef.nullary, TRef.ternary, TRef.unary, TRef.toBuf, TRef.ofBuf, cast_eq]
  after_results_simp
  rfl

set_option maxHeartbeats 4000000 in
/-- When the call is reached the second table holds the number of used tiles. -/
theorem Vd_nu (c : Dev nD) : Vd m c (Proc.devRef .tc main_v32) = Plan.nu (Plan.ends (topIdx m c)) := by
  unfold Vd
  simp only [pre, List.flatten_cons, List.flatten_nil, List.append_nil, after_append]
  simp only [hostOps0, hostOps0_1, hostOps0_2, hostOps0_3, hostOps0_4, hostOps0_5, hostOps0_6, hostOps0_7, TRef.binary, TRef.nullary, TRef.ternary, TRef.unary, TRef.toBuf, TRef.ofBuf, cast_eq]
  after_results_simp
  rfl

set_option maxHeartbeats 4000000 in
/-- The host operations write none of the arguments and not the result. -/
theorem Vd_args (c : Dev nD) : Vd m c (Proc.devRef .tc main_arg0) = m (c, Proc.devRef .tc main_arg0)
    ∧ Vd m c (Proc.devRef .tc main_arg1) = m (c, Proc.devRef .tc main_arg1)
    ∧ Vd m c (Proc.devRef .tc main_arg2) = m (c, Proc.devRef .tc main_arg2) := by
  unfold Vd
  simp only [pre, List.flatten_cons, List.flatten_nil, List.append_nil, after_append]
  simp only [hostOps0, hostOps0_1, hostOps0_2, hostOps0_3, hostOps0_4, hostOps0_5, hostOps0_6, hostOps0_7, TRef.binary, TRef.nullary, TRef.ternary, TRef.unary, TRef.toBuf, TRef.ofBuf, cast_eq]
  refine ⟨?_, ?_, ?_⟩ <;> after_results_simp

end Cert.KernelIdeal.GateUp
end
-- ==== Proof.Plan.lean ====
module

public import proofs.«01_k».proof.Proof.PlanDefs
public import proofs.«01_k».proof.Proof.Gen.ReferenceIdeal
public import Idealize.ShloMosaic.Lib.Routing.Ops
public import Idealize.ShloMosaic.Lib.StableHlo.Predicate
public import Idealize.ShloMosaic.Lib.WordCmp
public import Idealize.ShloMosaic.Lib.Affine
public import Idealize.ShloMosaic.PureOps.Reduce
public import Mathlib.Data.BitVec

@[expose] public section

set_option maxRecDepth 16384

noncomputable section

/-! What the tile plan means: every expert's rows end at a multiple of 512, so that the expert of a tile is the expert of
    each of its rows, and a tile is used exactly when its rows are. -/

namespace Cert.Plan

open Idealize.ShloMosaic Idealize.ShloMosaic.Routing Idealize.ShloMosaic.ValueIdx Cert.KernelIdeal Cert.KernelIdeal.Gen
open Idealize.ShloMosaic.StableHlo.Predicate (ij toNat_reduce_count_cols)

/-! ### The references' spelling -/

/-- The number of pairs of each expert, as the references count them: the mask summed over the pairs. -/
def refCounts (x : IVec S16384x2 32) : IVec S8 32 :=
  Host.reduce IntOp.addi (extui 32 (chosen x) natLt_1_32) (constantI S_ 32 0#32) ReferenceIdeal.Gen.reducesTo_S32768x8_S8_d0 h_S_

/-- The ends, from the chosen experts, by the references. -/
def refEnds (x : IVec S16384x2 32) : IVec S8 32 :=
  endsOf (floorDiv S8 bcast_S_S8 (addi (refCounts x) (broadcastInDim S8 ![] bcast_S_S8 (constantI S_ 32 511#32))))

/-- For each row the number of experts whose rows end at or before it. -/
def rowPast (E : IVec S8 32) : IVec ReferenceIdeal.S36864 32 :=
  Host.reduce IntOp.addi (extui 32 (cmpi .sge
    (broadcastInDim ReferenceIdeal.S36864x8 ![0, 1] ReferenceIdeal.Gen.bcast_S36864x1_S36864x8_0_1 (broadcastInDim ReferenceIdeal.S36864x1 ![0] ReferenceIdeal.Gen.bcast_S36864_S36864x1_0 (iotaInDim ReferenceIdeal.S36864 32 0)))
    (broadcastInDim ReferenceIdeal.S36864x8 ![0, 1] ReferenceIdeal.Gen.bcast_S1x8_S36864x8_0_1 (broadcastInDim S1x8 ![1] bcast_S8_S1x8_1 E))) natLt_1_32) (constantI S_ 32 0#32) ReferenceIdeal.Gen.reducesTo_S36864x8_S36864_d1 h_S_

/-- Whether each row is some expert's: whether it lies before the last end. -/
def used (E : IVec S8 32) : IVec ReferenceIdeal.S36864 1 :=
  cmpi .slt (iotaInDim ReferenceIdeal.S36864 32 0) (broadcastInDim ReferenceIdeal.S36864 ![] ReferenceIdeal.Gen.bcast_S_S36864 (shapeCast S_ (extractStridedSlice S1 ![7] E slices_S8_S1_7) ReferenceIdeal.Gen.shapeCasts_S1_S_))

/-! ### The two ways to count agree -/

/-- A left fold of word addition is the sum of the words. -/
theorem foldl_addi {ι : Type} (l : List ι) (g : ι → BitVec 32) (v : BitVec 32) :
    l.foldl (fun r a => IntOp.addi r (g a)) v = v + (l.map g).sum := by
  induction l generalizing v with
  | nil => simp
  | cons a l ih =>
    rw [List.foldl_cons, ih, List.map_cons, List.sum_cons]
    show v + g a + _ = _
    rw [add_assoc]

/-- A left fold over the positions of a shape's window of one column is the sum over its rows. -/
theorem sum_positions (g : Fin (shape2 32768 1).numel → BitVec 32) (f : Fin 32768 → BitVec 32)
    (hg : ∀ n, g n = f ⟨n.val, lt_of_lt_of_eq n.isLt (by show ∏ a : Fin 2, (![32768, 1] : Fin 2 → Nat) a = _; rw [Fin.prod_univ_two]; rfl)⟩) :
    ((List.finRange (shape2 32768 1).numel).map g).sum = ∑ p, f p := by
  have hN : (shape2 32768 1).numel = 32768 := by show ∏ a : Fin 2, (![32768, 1] : Fin 2 → Nat) a = _; rw [Fin.prod_univ_two]; rfl
  rw [← Fin.sum_univ_def]
  rw [show g = fun n => f (n.cast hN) from funext hg]
  exact (Fintype.sum_equiv (finCongr hN) _ _ fun _ => rfl)

/-- The last row of the running sums down the rows is the sum down the rows. -/
theorem last_row_eq (v : IVec S32768x8 32) (hw : S32768x8.ReduceWindows ![32768, 1] ![1, 1] ![32767, 0] ![0, 0] S32768x8)
    (hr : S32768x8.ReducesTo [0] S8) (z z' : IVec S_ 32) (hu : 0 < S_.numel) (hz : ∀ i, z i = 0#32) (hz' : ∀ i, z' i = 0#32) (q : Fin 8) :
    Host.reduceWindow IntOp.addi ![32768, 1] ![1, 1] ![32767, 0] ![0, 0] v z hw hu (ix2 (⟨32767, by decide⟩ : Fin 32768) q)
      = Host.reduce IntOp.addi v z' hr hu (ix1 q) := by
  have hR : Host.reduce IntOp.addi v z' hr hu (ix1 q) = ∑ p : Fin 32768, v (ix2 p q) := by
    rw [Host.reduce_eq_foldl, foldl_addi, hz', BitVec.zero_add]
    have hnd : ((((List.finRange S32768x8.numel).map S32768x8.rowMajor.symm).filter fun i => hr.drop i = ix1 q)).Nodup :=
      ((List.nodup_finRange _).map S32768x8.rowMajor.symm.injective).filter _
    rw [← List.sum_toFinset _ hnd]
    refine Finset.sum_bij' (fun i _ => i 0) (fun p _ => ix2 p q) (fun _ _ => Finset.mem_univ _) ?_ ?_ (fun _ _ => rfl) ?_
    · intro p _
      rw [List.mem_toFinset, List.mem_filter]
      refine ⟨List.mem_map.2 ⟨S32768x8.rowMajor (ix2 p q), List.mem_finRange _, Equiv.symm_apply_apply _ _⟩, decide_eq_true ?_⟩
      funext a
      obtain rfl : a = 0 := Subsingleton.elim _ _
      exact Fin.ext (Shape.ReducesTo.drop_apply_val hr (ix2 p q) 0)
    · intro i hi
      rw [List.mem_toFinset, List.mem_filter] at hi
      have h := of_decide_eq_true hi.2
      have h1 : (i 1).val = q.val := (Shape.ReducesTo.drop_apply_val hr i 0).symm.trans (congrArg Fin.val (congrFun h 0))
      funext a
      match a with
      | ⟨0, _⟩ => rfl
      | ⟨1, _⟩ => exact Fin.ext h1.symm
    · intro i hi
      rw [List.mem_toFinset, List.mem_filter] at hi
      have h := of_decide_eq_true hi.2
      have h1 : (i 1).val = q.val := (Shape.ReducesTo.drop_apply_val hr i 0).symm.trans (congrArg Fin.val (congrFun h 0))
      refine congrArg v (funext fun a => ?_)
      match a with
      | ⟨0, _⟩ => rfl
      | ⟨1, _⟩ => exact Fin.ext h1
  rw [hR]
  unfold Host.reduceWindow
  dsimp only
  rw [foldl_addi, hz, BitVec.zero_add]
  refine sum_positions _ (fun p => v (ix2 p q)) fun n => ?_
  have hs : ((shape2 32768 1).rowMajor.symm n 0).val = n.val ∧ ((shape2 32768 1).rowMajor.symm n 1).val = 0 := by
    have h := Shape.rowMajor_val_two ((shape2 32768 1).rowMajor.symm n)
    rw [Equiv.apply_symm_apply] at h
    have h1 : ((shape2 32768 1).rowMajor.symm n 1).val < 1 := ((shape2 32768 1).rowMajor.symm n 1).isLt
    change n.val = ((shape2 32768 1).rowMajor.symm n 0).val * 1 + ((shape2 32768 1).rowMajor.symm n 1).val at h
    omega
  have h0 := hs.1; have h1 := hs.2
  have hn : n.val < 32768 := h0 ▸ ((shape2 32768 1).rowMajor.symm n 0).isLt
  have hq := q.isLt
  rw [dif_pos]
  · refine congrArg v (funext fun a => Fin.ext ?_)
    match a with
    | ⟨0, _⟩ =>
      show 32767 * 1 + ((shape2 32768 1).rowMajor.symm n 0).val - 32767 = n.val
      omega
    | ⟨1, _⟩ =>
      show q.val * 1 + ((shape2 32768 1).rowMajor.symm n 1).val - 0 = q.val
      omega
  · intro a
    match a with
    | ⟨0, _⟩ =>
      show 32767 ≤ 32767 * 1 + ((shape2 32768 1).rowMajor.symm n 0).val ∧ 32767 * 1 + ((shape2 32768 1).rowMajor.symm n 0).val - 32767 < 32768
      omega
    | ⟨1, _⟩ =>
      show 0 ≤ q.val * 1 + ((shape2 32768 1).rowMajor.symm n 1).val ∧ q.val * 1 + ((shape2 32768 1).rowMajor.symm n 1).val - 0 < 8
      omega

/-- The kernels' host code and the references count the same. -/
theorem counts_eq (x : IVec S16384x2 32) : counts x = refCounts x := by
  funext j
  rw [eq_ix1 j]
  unfold counts refCounts
  refine Eq.trans ?_ (last_row_eq (extui 32 (chosen x) natLt_1_32) reduceWindows_S32768x8_S32768x8_w32768s1p32767_0_w1s1p0_0 _
    (broadcastInDim S_ ![] bcast_S_S_ (constantI S_ 32 0#32)) _ h_S_ (fun _ => rfl) (fun _ => rfl) (j 0))
  refine (shapeCast_apply _ _ (ix1 (j 0)) (ix2 (0 : Fin 1) (j 0)) ?_).trans ?_
  · rw [Shape.rowMajor_val_one, Shape.rowMajor_val_two]; simp
  · unfold extractStridedSlice
    refine congrArg _ (funext fun a => Fin.ext ?_)
    match a with
    | ⟨0, _⟩ => rfl
    | ⟨1, _⟩ => exact Nat.zero_add _

/-- The kernels' host code and the references have the same ends. -/
theorem ends_eq (x : IVec S16384x2 32) : ends x = refEnds x := by
  unfold ends refEnds
  rw [counts_eq]
  refine congrArg endsOf (congrArg (floorDiv S8 bcast_S_S8) (funext fun j => ?_))
  show refCounts x j + 512#32 - 1#32 = refCounts x j + 511#32
  rw [add_sub_assoc]; rfl

/-! ### Ends are multiples of 512 -/

/-- Every end is a multiple of 512. -/
theorem endsOf_mul (d : IVec S8 32) (j : S8.Idx) : ∃ k : BitVec 32, endsOf d j = k * 512#32 := by
  unfold endsOf Host.reduceWindow
  dsimp only
  rw [foldl_addi]
  have hz : (broadcastInDim S_ ![] bcast_S_S_ (constantI S_ 32 0#32) : IVec S_ 32) (Shape.Idx.first h_S_) = 0#32 := rfl
  rw [hz, BitVec.zero_add]
  generalize List.finRange _ = l
  induction l with
  | nil => exact ⟨0, by simp⟩
  | cons a l ih =>
    obtain ⟨k, hk⟩ := ih
    rw [List.map_cons, List.sum_cons, hk]
    split
    · exact ⟨d _ + k, (add_mul _ _ _).symm⟩
    · exact ⟨k, BitVec.zero_add _⟩

/-- A word that is a multiple of 512 is, read signed, a multiple of 512. -/
theorem toInt_mul (k : BitVec 32) : ∃ z : Int, (k * 512#32).toInt = 512 * z := by
  have h : (k * 512#32).toNat = k.toNat * 512 % 2 ^ 32 := BitVec.toNat_mul k 512#32
  rw [BitVec.toInt_eq_toNat_cond, h]
  split
  · exact ⟨((k.toNat * 512 % 2 ^ 32) / 512 : Nat), by omega⟩
  · exact ⟨((k.toNat * 512 % 2 ^ 32) / 512 : Nat) - 2 ^ 23, by omega⟩

/-- Every end, read signed, is a multiple of 512. -/
theorem endsOf_toInt (d : IVec S8 32) (j : S8.Idx) : ∃ z : Int, (endsOf d j).toInt = 512 * z := by
  obtain ⟨k, hk⟩ := endsOf_mul d j
  rw [hk]; exact toInt_mul k

/-- Dividing a multiple of 512 by 512 is exact. -/
theorem floorDiv_exact {s : Shape} (hb : S_.BroadcastsInDim s (![] : Fin 0 → Fin s.rank)) (x : IVec s 32) (j : s.Idx) (z : Int)
    (h : (x j).toInt = 512 * z) : (floorDiv s hb x j).toInt = z := by
  have hpos : 0 < (512#32 : BitVec 32).toInt := by decide
  have hrem : IntOp.remsi .host (x j) 512#32 = 0#32 := by
    rw [IntOp.remsi_of_pos _ hpos]
    apply BitVec.eq_of_toInt_eq
    rw [BitVec.toInt_srem, h]
    show (512 * z).tmod 512 = 0
    exact Int.mul_tmod_right _ _
  have hdiv : IntOp.divsi .host (x j) 512#32 = (x j).sdiv 512#32 := if_neg (IntOp.not_corner_of_pos hpos)
  have e : floorDiv s hb x j = IntOp.divsi .host (x j) 512#32 := by
    show (if IntOp.andi _ (IntOp.cmpi .ne (IntOp.remsi .host (x j) 512#32) 0#32) = 1 then _ else _) = _
    rw [hrem, if_neg]
    · rfl
    · intro hc
      exact absurd (IntOp.andi_eq_one.1 hc).2 (by decide)
  rw [e, hdiv, BitVec.toInt_sdiv, h]
  have hlo := BitVec.le_toInt (x j)
  have hhi := BitVec.toInt_lt (x := x j)
  rw [h] at hlo hhi
  show Int.bmod ((512 * z).tdiv 512) (2 ^ 32) = z
  rw [Int.mul_tdiv_cancel_left _ (by decide)]
  apply Int.bmod_eq_of_le <;> omega

/-! ### Tiles and rows -/

/-- A word below the sign bit, read signed. -/
theorem toInt_ofNat (a : Nat) (h : a < 2 ^ 31) : (BitVec.ofNat 32 a).toInt = a := WordCmp.toInt_ofNat_of_lt h

/-- How many experts' rows end at or before tile `r`. -/
theorem tilePast_toNat (E : IVec S8 32) (r : Fin 72) :
    (tilePast E (ix1 r)).toNat = (Finset.univ.filter fun q : Fin 8 => (E (ix1 q)).toInt ≤ 512 * (r.val : Int)).card := by
  unfold tilePast
  rw [toNat_reduce_count_cols (by decide)]
  congr 1
  refine Finset.filter_congr fun q _ => ?_
  rw [ij_eq_ix2]
  show IntOp.cmpi .sge _ _ = 1#1 ↔ _
  rw [bcRows, bcCols, IntOp.cmpi_sge]
  show (E (ix1 q)).toInt ≤ (BitVec.ofNat 32 r.val * BitVec.ofNat 32 512).toInt ↔ _
  rw [← BitVec.ofNat_mul, toInt_ofNat _ (by have := r.isLt; omega)]
  push_cast
  rw [mul_comm]

/-- How many experts' rows end at or before row `n`. -/
theorem rowPast_toNat (E : IVec S8 32) (n : Fin 36864) :
    (rowPast E (ix1 n)).toNat = (Finset.univ.filter fun q : Fin 8 => (E (ix1 q)).toInt ≤ (n.val : Int)).card := by
  unfold rowPast
  rw [toNat_reduce_count_cols (by decide)]
  congr 1
  refine Finset.filter_congr fun q _ => ?_
  rw [ij_eq_ix2]
  show IntOp.cmpi .sge _ _ = 1#1 ↔ _
  rw [bcRows, bcCols, IntOp.cmpi_sge]
  show (E (ix1 q)).toInt ≤ (BitVec.ofNat 32 n.val).toInt ↔ _
  rw [toInt_ofNat _ (by have := n.isLt; omega)]

/-- A row is used when it lies before the last end. -/
theorem used_iff (E : IVec S8 32) (n : Fin 36864) : used E (ix1 n) = 1#1 ↔ (n.val : Int) < (E (ix1 (7 : Fin 8))).toInt := by
  have e : (shapeCast S_ (extractStridedSlice S1 ![7] E slices_S8_S1_7) ReferenceIdeal.Gen.shapeCasts_S1_S_) ix0 = E (ix1 (7 : Fin 8)) := by
    refine (shapeCast_apply _ _ _ (ix1 (0 : Fin 1)) ?_).trans ?_
    · rw [Shape.rowMajor_val_one]; rfl
    · unfold extractStridedSlice
      refine congrArg E (funext fun a => Fin.ext ?_)
      match a with
      | ⟨0, _⟩ => rfl
  unfold used
  show IntOp.cmpi .slt (BitVec.ofNat 32 n.val) _ = 1#1 ↔ _
  rw [bc0, e, IntOp.cmpi_slt, toInt_ofNat _ (by have := n.isLt; omega)]

/-- A tile's expert is at most 7. -/
theorem te_le (E : IVec S8 32) (r : Fin 72) : (te E (ix1 r)).toNat ≤ 7 := by
  have h : (tilePast E (ix1 r)).toNat ≤ 8 := by
    rw [tilePast_toNat]; exact (Finset.card_le_univ _).trans (by simp)
  show (IntOp.minsi (tilePast E (ix1 r)) 7#32).toNat ≤ 7
  unfold IntOp.minsi
  split
  · next hs =>
    rw [BitVec.slt_iff_toInt_lt, WordCmp.toInt_eq_toNat_of_lt_half (x := tilePast E (ix1 r)) (by omega)] at hs
    have : (7#32 : BitVec 32).toInt = 7 := by decide
    omega
  · decide

/-- Row `n`'s tile. -/
def tileOf (n : Fin 36864) : Fin 72 := ⟨n.val / 512, by have := n.isLt; omega⟩

/-- Where the ends are multiples of 512, as many experts end before a row as before its tile. -/
theorem rowPast_eq (d : IVec S8 32) (n : Fin 36864) : rowPast (endsOf d) (ix1 n) = tilePast (endsOf d) (ix1 (tileOf n)) := by
  apply BitVec.eq_of_toNat_eq
  rw [rowPast_toNat, tilePast_toNat]
  congr 1
  refine Finset.filter_congr fun q _ => ?_
  obtain ⟨z, hz⟩ := endsOf_toInt d (ix1 q)
  rw [hz]
  show _ ↔ 512 * z ≤ 512 * ((n.val / 512 : Nat) : Int)
  omega

/-- The number of used tiles times 512 is the last end. -/
theorem nu_toInt (d : IVec S8 32) : 512 * (nu (endsOf d) (ix1 (0 : Fin 1))).toInt = (endsOf d (ix1 (7 : Fin 8))).toInt := by
  obtain ⟨z, hz⟩ := endsOf_toInt d (ix1 (7 : Fin 8))
  have e : extractStridedSlice S1 ![7] (endsOf d) slices_S8_S1_7 (ix1 (0 : Fin 1)) = endsOf d (ix1 (7 : Fin 8)) := by
    unfold extractStridedSlice
    refine congrArg _ (funext fun a => Fin.ext ?_)
    match a with
    | ⟨0, _⟩ => rfl
  unfold nu
  rw [floorDiv_exact bcast_S_S1 _ _ z (by rw [e]; exact hz), hz]

/-- A row is used exactly when its tile is. -/
theorem used_tile (d : IVec S8 32) (n : Fin 36864) :
    used (endsOf d) (ix1 n) = 1#1 ↔ IntOp.cmpi .slt (BitVec.ofNat 32 (tileOf n).val) (nu (endsOf d) (ix1 (0 : Fin 1))) = 1#1 := by
  rw [used_iff, IntOp.cmpi_slt, toInt_ofNat _ (by have := (tileOf n).isLt; omega), ← nu_toInt]
  show _ ↔ ((n.val / 512 : Nat) : Int) < _
  omega

/-- A used row's expert is its tile's. -/
theorem rowPast_te (d : IVec S8 32) (n : Fin 36864) (h : used (endsOf d) (ix1 n) = 1#1) :
    rowPast (endsOf d) (ix1 n) = te (endsOf d) (ix1 (tileOf n)) := by
  have h8 : (rowPast (endsOf d) (ix1 n)).toNat ≤ 7 := by
    rw [rowPast_toNat]
    refine Nat.le_of_lt_succ (lt_of_lt_of_eq (Finset.card_lt_univ_of_notMem (x := (7 : Fin 8)) fun hm => ?_) (by simp))
    have := (Finset.mem_filter.1 hm).2
    have := (used_iff _ n).1 h
    omega
  rw [rowPast_eq] at h8 ⊢
  show _ = IntOp.minsi (tilePast _ _) 7#32
  unfold IntOp.minsi
  split
  · rfl
  · next hs =>
    rw [BitVec.slt_iff_toInt_lt, WordCmp.toInt_eq_toNat_of_lt_half (x := tilePast (endsOf d) (ix1 (tileOf n))) (by omega)] at hs
    have : (7#32 : BitVec 32).toInt = 7 := by decide
    apply BitVec.eq_of_toNat_eq
    show _ = 7
    omega

end Cert.Plan
end
-- ==== Proof.GateUp.Run.lean ====
module

public import proofs.«01_k».proof.Proof.GateUp.Pipe
public import proofs.«01_k».proof.Proof.GateUp.Host
public import proofs.«01_k».proof.Proof.Plan
public import Idealize.ShloMosaic.Lib.Pipeline.Value
public import Idealize.ShloMosaic.Lib.Claim

@[expose] public section

set_option maxRecDepth 16384

noncomputable section

namespace Cert.KernelIdeal.GateUp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers and the tables when the call is reached -/

/-- Core `c`'s buffers when the call is reached. -/
def V (c : Dev nD) (b : Ref sig .tc) : Buf (Elt F) ((c : Thread nD τ).loc b) := Vd m c (Proc.devRef .tc b)

set_option maxHeartbeats 1600000 in
/-- The host operations take the launch memory to `V`. -/
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main pre
    ⟨hostOps0_sub, hostOps0_1_sub, hostOps0_2_sub, hostOps0_3_sub, hostOps0_4_sub, hostOps0_5_sub, hostOps0_6_sub, hostOps0_7_sub⟩
    (by refine ⟨?_, ?_, ?_, ?_, ?_, ?_, ?_, ?_⟩ <;> (repeat' apply And.intro) <;> first | rfl | trivial)
    (fun c => (main_chain c).trans rfl)

/-- The tables' contents when the call is reached. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The tiles' experts and the number of used tiles. -/
abbrev tes : IVec S72 32 := tbl m 0
abbrev nus : IVec S1 32 := tbl m 1

theorem tes_eq : tes m = Plan.te (Plan.ends (topIdx m 0)) := Vd_te m 0
theorem nus_eq : nus m = Plan.nu (Plan.ends (topIdx m 0)) := Vd_nu m 0

/-- Every tile's expert is one of the eight. -/
theorem ex_le (r : Fin 72) : ex (tbl m) r ≤ 7 := by
  show (tes m (ix1 r)).toNat ≤ 7
  rw [tes_eq]; exact Plan.te_le _ r

/-- The side condition on the tables holds whatever the memory. -/
theorem ok : ok0 (F := F) (tbl m) := ok_of (tbl m) (ex_le m)

/-- The tables as admissible contents. -/
abbrev adm : (pcfg0 (F := F)).Adm := ⟨tbl m, ok m⟩

set_option backward.isDefEq.respectTransparency.types false in
/-- The launch: every fair execution terminates, the arrays at what the write-backs leave and the counters at zero. -/
theorem run_main_quiescent : θ_run defs (onTc (τ := τ) (main (F := F))) (s₀ m ρ)
    (fun r => Pipeline.FramePost (Pipeline.pin pcfgs fun _ => adm m) (dats (V m) (tbl m) (ok m)) 0 (V m) r ∧ r.2.sem = fun _ => 0) :=
  Pipeline.θ_run_frameP_track_shared (Q' := _) pcfgs (fun _ => adm m) (dats (V m) (tbl m) (ok m)) (0 : Fin 1) launch₀0 defs₀ Variants.none m ρ main
    (hbody := fun c => (body_obligation (V m) (tbl m) (ok m) (ex_le m) c).loose) (hq := fun _ _ _ => rfl)
    (howed := fun _ _ => rfl) (V := V m) (hmain := hmain m) (hA := A_eq (V m) (tbl m) (ok m)) (hpf := V_pre m) (hin := hin (V m) (tbl m) (ok m)) (hout := hout (V m) (tbl m) (ok m))

/-- The run at the arguments and the result: the arguments end unchanged, the result at what the write-backs leave, the
    counters at zero. -/
theorem run_main : θ_run defs (onTc (τ := τ) (main (F := F))) ⟨m, fun _ => 0, ρ⟩ (fun r => (∀ c : Dev nD,
      r.2.mem ((c.tc : Thread nD τ).loc main_v33) = (dats (V m) (tbl m) (ok m) 0 c).arrAt 3 (cfgM (tbl m) (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c).1 3,
      ((h.1 c).2 main_arg0 (by decide : main_arg0 ∈ Pipeline.restRefs sig spec0)).trans (Vd_args m c).1,
      ((h.1 c).1 0).trans (((dats (V m) (tbl m) (ok m) 0 c).arrAt_in 0 rfl _).trans ((A_eq (V m) (tbl m) (ok m) c 0).trans (Vd_args m c).2.1)),
      ((h.1 c).1 1).trans (((dats (V m) (tbl m) (ok m) 0 c).arrAt_in 1 rfl _).trans ((A_eq (V m) (tbl m) (ok m) c 1).trans (Vd_args m c).2.2))⟩, h.2⟩)
    (run_main_quiescent m ρ)

end Cert.KernelIdeal.GateUp
end
-- ==== Proof.GateUp.Ref.lean ====
module

public import proofs.«01_k».proof.Proof.Plan
public import proofs.«01_k».proof.Proof.Gen.ReferenceIdeal.Run
public import Idealize.ShloMosaic.Lib.Pointwise
public import Idealize.ShloMosaic.Lib.IdealHost

@[expose] public section

set_option maxRecDepth 16384

noncomputable section

/-! The first reference's result read at one row and column: the row's expert's gated product, or zero. -/

namespace Cert.GateUpRef

open Idealize.ShloMosaic Idealize.ShloMosaic.TcCoe Idealize.ShloMosaic.StableHlo
open Cert.ReferenceIdeal Cert.ReferenceIdeal.Gen Cert.ReferenceIdeal.Value

/-- The gated product of two numbers: the first through its logistic function, times the second. -/
def act (g u : EReal) : EReal := Ideal.div g (1 + Ideal.exp (-g)) * u

/-- One plus an exponential is not zero. -/
theorem one_add_exp_ne (g : EReal) : 1 + Ideal.exp g ≠ 0 := by
  have h : (0 : EReal) ≤ Ideal.exp g := by
    induction g using EReal.rec with
    | bot => exact le_refl _
    | coe r => exact EReal.coe_nonneg.mpr (Real.exp_pos r).le
    | top => exact le_top
  intro e
  have h1 : (1 : EReal) ≤ 1 + Ideal.exp g := le_add_of_nonneg_right h
  rw [e] at h1; exact absurd h1 (by simp)

/-- The gated product as the references spell it: a product with the reciprocal. -/
theorem act_eq (g u : EReal) : g * Ideal.div 1 (1 + Ideal.exp (-g)) * u = act g u := by
  rw [act, Ideal.mul_one_div (one_add_exp_ne _)]

/-- Row `n` of the rows times column `f` of expert `e`'s first weight. -/
def dotAt (x : FVec Ideal S36864x2048 .bf16) (w : FVec Ideal S2x8x2048x11264 .f32) (e : Fin 8) (n : Fin 36864) (f : Fin 11264) : EReal :=
  ∑ k : Fin 2048, x (ix2 n k) * w (ix4 (0 : Fin 2) e k f)

/-- The product of the rows with one expert's slice of the weights, read at one element. -/
theorem dot_apply (x : FVec Ideal S36864x2048 .bf16) (w : FVec Ideal S2x8x2048x11264 .f32) (e : Fin 8)
    (h : S2x8x2048x11264.Slices ![0, e.val, 0, 0] S1x1x2048x11264) (n : Fin 36864) (f : Fin 11264) :
    Host.dotGeneral dot_S36864x2048_S2048x11264_S36864x11264_1_0_0_1_n_n none (extf .f32 x bitsLt_bf16_f32)
      (shapeCast _ (extractStridedSlice S1x1x2048x11264 ![0, e.val, 0, 0] w h) shapeCasts_S1x1x2048x11264_S2048x11264) (ix2 n f)
      = dotAt x w e n f := by
  pointwise [dotAt]

/-- Both of two bits are set exactly when their conjunction is. -/
theorem andi_one (a b : BitVec 1) : IntOp.andi a b = 1#1 ↔ a = 1#1 ∧ b = 1#1 := by
  revert a b; decide

/-- The comparison for equality gives 1 exactly when the words are equal. -/
theorem cmpi_eq_one (a b : BitVec 32) : IntOp.cmpi .eq a b = 1#1 ↔ a = b := by
  simp [IntOp.cmpi, WordCmp.ofBool_eq_one_iff]

/-- One expert's step of the reference's chain, read at one element: the gated product where the row is the expert's, the
    earlier steps' value elsewhere. -/
theorem layer (e : BitVec 32) (us : IVec S36864 1) (rp : IVec S36864 32) (H : FVec Ideal S36864x11264 .f32)
    (rest : FVec Ideal S36864x5632 .f32) (n : Fin 36864) (f : Fin 5632) :
    select (broadcastInDim S36864x5632 ![0, 1] bcast_S36864x1_S36864x5632_0_1 (broadcastInDim S36864x1 ![0] bcast_S36864_S36864x1_0
        (andi us (cmpi .eq rp (broadcastInDim S36864 ![] bcast_S_S36864 (constantI S_ 32 e))))))
      (mulf (mulf (extractStridedSlice S36864x5632 ![0, 0] H slices_S36864x11264_S36864x5632_0_0)
        (Host.divf (broadcastInDim S36864x5632 ![] bcast_S_S36864x5632 (constant S_ .f32 0x3F800000#32))
          (addf (broadcastInDim S36864x5632 ![] bcast_S_S36864x5632 (constant S_ .f32 0x3F800000#32))
            (Host.exp (Host.negf (extractStridedSlice S36864x5632 ![0, 0] H slices_S36864x11264_S36864x5632_0_0))))))
        (extractStridedSlice S36864x5632 ![0, 5632] H slices_S36864x11264_S36864x5632_0_5632)) rest (ix2 n f)
      = if us (ix1 n) = 1#1 ∧ rp (ix1 n) = e then act (H (ix2 n ⟨f.val, by omega⟩)) (H (ix2 n ⟨5632 + f.val, by omega⟩)) else rest (ix2 n f) := by
  pointwise
  rw [act_eq]
  have h : IntOp.andi (us (ix1 n)) (IntOp.cmpi .eq (rp (ix1 n)) e) = 1#1 ↔ us (ix1 n) = 1#1 ∧ rp (ix1 n) = e := by
    rw [andi_one, cmpi_eq_one]
  unfold Scalar.select
  by_cases hc : us (ix1 n) = 1#1 ∧ rp (ix1 n) = e
  · exact (if_pos (h.mpr hc)).trans (if_pos hc).symm
  · exact (if_neg (fun k => hc (h.mp k))).trans (if_neg hc).symm

/-- The first reference's result, as a term of its arguments. -/
def result (V0 : Valuation τ sig (Elt Ideal)) : FVec Ideal S36864x5632 .bf16 :=
  truncf .bf16 (select (broadcastInDim S36864x5632 ![0, 1] bcast_S36864x1_S36864x5632_0_1 (broadcastInDim S36864x1 ![0] bcast_S36864_S36864x1_0 (andi (res_main_v26 V0) (cmpi .eq (res_main_v22 V0) (broadcastInDim S36864 ![] bcast_S_S36864 (constantI S_ 32 7#32)))))) (mulf (mulf (res_main_v116 V0) (Host.divf (broadcastInDim S36864x5632 ![] bcast_S_S36864x5632 (constant S_ .f32 0x3F800000#32)) (addf (broadcastInDim S36864x5632 ![] bcast_S_S36864x5632 (constant S_ .f32 0x3F800000#32)) (Host.exp (Host.negf (res_main_v116 V0)))))) (extractStridedSlice S36864x5632 ![0, 5632] (res_main_v115 V0) slices_S36864x11264_S36864x5632_0_5632)) (res_main_v112 V0)) bitsLt_bf16_f32

/-- The chosen experts, the rows and the weights among the first reference's arguments. -/
abbrev argI (V0 : Valuation τ sig (Elt Ideal)) : IVec S16384x2 32 := V0 (Proc.devRef .tc main_arg0)
abbrev argX (V0 : Valuation τ sig (Elt Ideal)) : FVec Ideal S36864x2048 .bf16 := V0 (Proc.devRef .tc main_arg1)
abbrev argW (V0 : Valuation τ sig (Elt Ideal)) : FVec Ideal S2x8x2048x11264 .f32 := V0 (Proc.devRef .tc main_arg2)

theorem v26_eq (V0 : Valuation τ sig (Elt Ideal)) : res_main_v26 V0 = Plan.used (Plan.refEnds (argI V0)) := rfl

theorem v22_eq (V0 : Valuation τ sig (Elt Ideal)) : res_main_v22 V0 = Plan.rowPast (Plan.refEnds (argI V0)) := rfl

theorem v31_apply (V0 : Valuation τ sig (Elt Ideal)) (n : Fin 36864) (f : Fin 11264) :
    res_main_v31 V0 (ix2 n f) = dotAt (argX V0) (argW V0) 0 n f := dot_apply (argX V0) (argW V0) 0 _ n f

theorem v43_apply (V0 : Valuation τ sig (Elt Ideal)) (n : Fin 36864) (f : Fin 11264) :
    res_main_v43 V0 (ix2 n f) = dotAt (argX V0) (argW V0) 1 n f := dot_apply (argX V0) (argW V0) 1 _ n f

theorem v55_apply (V0 : Valuation τ sig (Elt Ideal)) (n : Fin 36864) (f : Fin 11264) :
    res_main_v55 V0 (ix2 n f) = dotAt (argX V0) (argW V0) 2 n f := dot_apply (argX V0) (argW V0) 2 _ n f

theorem v67_apply (V0 : Valuation τ sig (Elt Ideal)) (n : Fin 36864) (f : Fin 11264) :
    res_main_v67 V0 (ix2 n f) = dotAt (argX V0) (argW V0) 3 n f := dot_apply (argX V0) (argW V0) 3 _ n f

theorem v79_apply (V0 : Valuation τ sig (Elt Ideal)) (n : Fin 36864) (f : Fin 11264) :
    res_main_v79 V0 (ix2 n f) = dotAt (argX V0) (argW V0) 4 n f := dot_apply (argX V0) (argW V0) 4 _ n f

theorem v91_apply (V0 : Valuation τ sig (Elt Ideal)) (n : Fin 36864) (f : Fin 11264) :
    res_main_v91 V0 (ix2 n f) = dotAt (argX V0) (argW V0) 5 n f := dot_apply (argX V0) (argW V0) 5 _ n f

theorem v103_apply (V0 : Valuation τ sig (Elt Ideal)) (n : Fin 36864) (f : Fin 11264) :
    res_main_v103 V0 (ix2 n f) = dotAt (argX V0) (argW V0) 6 n f := dot_apply (argX V0) (argW V0) 6 _ n f

theorem v115_apply (V0 : Valuation τ sig (Elt Ideal)) (n : Fin 36864) (f : Fin 11264) :
    res_main_v115 V0 (ix2 n f) = dotAt (argX V0) (argW V0) 7 n f := dot_apply (argX V0) (argW V0) 7 _ n f

/-- The first reference's result at one element, for a row whose expert is `e` if it is some expert's: the gated product
    of the row's products with the expert's two weight columns; zero for a row that is no expert's. -/
theorem result_apply (V0 : Valuation τ sig (Elt Ideal)) (n : Fin 36864) (f : Fin 5632) (e : Fin 8)
    (he : Plan.used (Plan.refEnds (argI V0)) (ix1 n) = 1#1 → Plan.rowPast (Plan.refEnds (argI V0)) (ix1 n) = BitVec.ofNat 32 e.val) :
    result V0 (ix2 n f) = if Plan.used (Plan.refEnds (argI V0)) (ix1 n) = 1#1
      then act (dotAt (argX V0) (argW V0) e n ⟨f.val, by omega⟩) (dotAt (argX V0) (argW V0) e n ⟨5632 + f.val, by omega⟩) else 0 := by
  unfold result
  change select _ _ _ (ix2 n f) = _
  simp only [res_main_v112, res_main_v32, res_main_v44, res_main_v56, res_main_v68, res_main_v80, res_main_v92, res_main_v104, res_main_v116]
  rw [layer, layer, layer, layer, layer, layer, layer, layer, v26_eq, v22_eq]
  simp only [v31_apply, v43_apply, v55_apply, v67_apply, v79_apply, v91_apply, v103_apply, v115_apply]
  generalize hu : Plan.used (Plan.refEnds (argI V0)) (ix1 n) = us at he ⊢
  generalize hr : Plan.rowPast (Plan.refEnds (argI V0)) (ix1 n) = rp at he ⊢
  by_cases h : us = 1#1
  · rw [he h]
    fin_cases e <;> simp [h]
  · simp only [h, false_and, if_false]
    pointwise

end Cert.GateUpRef

end
-- ==== Proof.GateUp.Value.lean ====
module

public import proofs.«01_k».proof.Proof.GateUp.Run
public import proofs.«01_k».proof.Proof.GateUp.Ref
public import Idealize.ShloMosaic.Lib.Pipeline.Covers

@[expose] public section

set_option maxRecDepth 16384

noncomputable section

/-! What the first kernel's result array holds at `Ideal`, and that the first reference's holds the same. -/

namespace Cert.KernelIdeal.GateUp

open Cert.KernelIdeal.Gen
open Idealize.ShloMosaic Idealize.ShloMosaic.TcCoe Idealize.ShloMosaic.StableHlo
open Idealize.SL.Sem
open Idealize.ShloMosaic.Pipeline (Dat Cfg Window)
open Cert.GateUpRef (act dotAt)

/-- The product block of a point, from its three input blocks: the gated product of the row's products with the two
    weight columns. -/
theorem pay_apply (x0 : FVec Ideal S512x2048 .bf16) (x1 x2 : FVec Ideal S1x1x2048x512 .f32) (p q : Fin 512) :
    (k0_pay3 (F := Ideal) x0 (k0_pay1 (F := Ideal) x1) (k0_pay2 (F := Ideal) x2) : FVec Ideal S512x512 .bf16) (ix2 p q)
      = act (∑ k : Fin 2048, x0 (ix2 p k) * x1 (ix4 (0 : Fin 1) (0 : Fin 1) k q)) (∑ k : Fin 2048, x0 (ix2 p k) * x2 (ix4 (0 : Fin 1) (0 : Fin 1) k q)) := by
  pointwise [k0_pay3, k0_pay1, k0_pay2, act]
  rw [zero_sub]

/-- The block that a point beyond the used tiles stores. -/
theorem pay4_apply (p q : Fin 512) : (k0_pay4 : FVec Ideal S512x512 .bf16) (ix2 p q) = 0 := by
  pointwise [k0_pay4]

/-- The body computes the product exactly on the used tiles. -/
theorem cond2_iff (i : grid0.Coords) (nu : BitVec 32) :
    k0_cond2 i nu = 1#1 ↔ IntOp.cmpi .slt (BitVec.ofNat 32 (i 1).val) nu = 1#1 := by
  unfold k0_cond2
  show IntOp.cmpi .ne ((IntOp.cmpi .slt _ _).setWidth 32) 0#32 = 1#1 ↔ _
  rw [WordCmp.cmpi_slt_eq]
  have key : ∀ p : Bool, IntOp.cmpi .ne ((BitVec.ofBool p).setWidth 32) 0#32 = 1#1 ↔ BitVec.ofBool p = 1#1 := by decide
  exact key _

/-- The gated products of all rows, from the rows, the weights, the tiles' experts and the number of used tiles. -/
def gated (x : FVec Ideal S36864x2048 .bf16) (w : FVec Ideal S2x8x2048x11264 .f32) (e : Fin 72 → Fin 8) (nu : BitVec 32) :
    FVec Ideal S36864x5632 .bf16 := fun i =>
  if IntOp.cmpi .slt (BitVec.ofNat 32 (Plan.tileOf (i 0)).val) nu = 1#1
    then act (dotAt x w (e (Plan.tileOf (i 0))) (i 0) ⟨(i 1).val, lt_trans (i 1).isLt (by decide)⟩)
      (dotAt x w (e (Plan.tileOf (i 0))) (i 0) ⟨5632 + (i 1).val, Nat.add_lt_add_left (i 1).isLt 5632⟩)
    else 0

section

variable (V : (c : Dev nD) → (b : Ref sig .tc) → Buf (Elt Ideal) ((c : Thread nD τ).loc b)) (pf : pre0.Contents (Elt Ideal))
variable (hO : ok0 (F := Ideal) pf)

/-- A point's block is its block of the gated products. -/
theorem outAt_apply (hle : ∀ r, ex pf r ≤ 7) (c : Dev nD) (t : Fin (cfgM pf hO).N) (y : S512x512.Idx) (i : S36864x5632.Idx)
    (h0 : (i 0).val = (grid0.coords t 1).val * 512 + (y 0).val) (h1 : (i 1).val = (grid0.coords t 0).val * 512 + (y 1).val) :
    outAt V pf hO c t y = gated (V c main_arg1) (V c main_arg2) (fun r => ⟨ex pf r, Nat.lt_succ_of_le (hle r)⟩) (pf 1 ix0) i := by
  have y0 : (y 0).val < 512 := (y 0).isLt
  have y1 : (y 1).val < 512 := (y 1).isLt
  have hj : (grid0.coords t 0).val < 11 := (grid0.coords t 0).isLt
  have ht : Plan.tileOf (i 0) = grid0.coords t 1 := Fin.ext (by show (i 0).val / 512 = _; omega)
  unfold outAt outv gated
  rw [ht]
  by_cases hc : IntOp.cmpi .slt (BitVec.ofNat 32 (grid0.coords t 1).val) (pf 1 ix0) = 1#1
  · rw [if_pos ((cond2_iff _ _).mpr hc), if_pos hc]
    have hy : y = ix2 (⟨(y 0).val, y0⟩ : Fin 512) (⟨(y 1).val, y1⟩ : Fin 512) := by
      funext a; match a with | 0 => rfl | 1 => rfl
    rw [hy]
    refine (pay_apply (iblk V pf hO c 0 t) (iblk V pf hO c 1 t) (iblk V pf hO c 2 t) _ _).trans ?_
    unfold dotAt
    refine congrArg₂ act ?_ ?_
    · refine Finset.sum_congr rfl fun k _ => ?_
      refine congrArg₂ (· * ·) (iblk0_apply V pf hO c t _ (ix2 (i 0) k) h0 rfl) (iblk1_apply V pf hO c t _ (ix4 (0 : Fin 2) (⟨ex pf (grid0.coords t 1), Nat.lt_succ_of_le (hle _)⟩ : Fin 8) k (⟨(i 1).val, lt_trans (i 1).isLt (by decide)⟩ : Fin 11264)) rfl rfl rfl h1)
    · refine Finset.sum_congr rfl fun k _ => ?_
      refine congrArg₂ (· * ·) (iblk0_apply V pf hO c t _ (ix2 (i 0) k) h0 rfl) (iblk2_apply V pf hO c t _ (ix4 (0 : Fin 2) (⟨ex pf (grid0.coords t 1), Nat.lt_succ_of_le (hle _)⟩ : Fin 8) k (⟨5632 + (i 1).val, Nat.add_lt_add_left (i 1).isLt 5632⟩ : Fin 11264)) rfl rfl rfl
        (by show 5632 + (i 1).val = ((grid0.coords t 0).val + 11) * 512 + (y 1).val; omega))
  · rw [if_neg (fun h => hc ((cond2_iff _ _).mp h)), if_neg hc]
    have hy : y = ix2 (⟨(y 0).val, y0⟩ : Fin 512) (⟨(y 1).val, y1⟩ : Fin 512) := by
      funext a; match a with | 0 => rfl | 1 => rfl
    rw [hy, pay4_apply]

/-- What a point writes back is its block of the gated products. -/
theorem flushed_eq (hle : ∀ r, ex pf r ≤ 7) (c : Dev nD) (t : Fin (cfgM pf hO).N) :
    (dats V pf hO 0 c).flushed 3 t = (((cfgM pf hO).win 3).blk t).view.read (Elt Ideal)
      (gated (V c main_arg1) (V c main_arg2) (fun r => ⟨ex pf r, Nat.lt_succ_of_le (hle r)⟩) (pf 1 ix0)) := by
  show ((cfgM pf hO).win 3).cut (grid0.coords t) ((dats V pf hO 0 c).after 3 t) = _
  rw [after3]
  funext (y : S512x512.Idx)
  refine outAt_apply V pf hO hle c t y _ ?_ ?_
  · refine (Window.rect_emb_val ((cfgM pf hO).win 3) t y (0 : Fin 2)).trans ?_
    show cc0_transform_3 (grid0.coords t) 0 * 512 + (y 0).val = _
    rw [t3_eq]; rfl
  · refine (Window.rect_emb_val ((cfgM pf hO).win 3) t y (1 : Fin 2)).trans ?_
    show cc0_transform_3 (grid0.coords t) 1 * 512 + (y 1).val = _
    rw [t3_eq]; rfl

/-- Every element of the result is in the block of a point that writes back. -/
theorem cover (i : S36864x5632.Idx) :
    ∃ t : Fin (cfgM pf hO).N, ((cfgM pf hO).win 3).flush t = true ∧ i ∈ (((cfgM pf hO).win 3).blk t).view.set := by
  have i0 : (i 0).val < 36864 := (i 0).isLt
  have i1 : (i 1).val < 5632 := (i 1).isLt
  obtain ⟨s, hs⟩ := Pipeline.Grid.coords_surjective grid0
    (fun a => match a with | 0 => (⟨(i 1).val / 512, by show _ < 11; omega⟩ : Fin 11) | 1 => (⟨(i 0).val / 512, by show _ < 72; omega⟩ : Fin 72))
  obtain ⟨t, -, hf, hix⟩ := Window.exists_flush_same_index ((cfgM pf hO).win 3) rfl s
  refine ⟨t, hf, ?_⟩
  show i ∈ ((View.whole main_v33).slice (((cfgM pf hO).win 3).rect t)).set
  erw [View.set_slice_whole]
  refine (Window.mem_rect_iff ((cfgM pf hO).win 3) t i (by rfl)).mpr fun (a : Fin 2) => ?_
  rw [hix]
  have e : ((cfgM pf hO).win 3).index s = ![(i 0).val / 512, (i 1).val / 512] := by
    show cc0_transform_3 (grid0.coords s) = _
    rw [t3_eq, hs]
  rw [e]
  match a with
  | 0 => show (i 0).val / 512 * 512 ≤ (i 0).val ∧ (i 0).val < (i 0).val / 512 * 512 + 512; omega
  | 1 => show (i 1).val / 512 * 512 ≤ (i 1).val ∧ (i 1).val < (i 1).val / 512 * 512 + 512; omega

/-- The result array after the run: the gated products. -/
theorem final (hle : ∀ r, ex pf r ≤ 7) (c : Dev nD) : (dats V pf hO 0 c).arrAt 3 (cfgM pf hO).N
    = gated (V c main_arg1) (V c main_arg2) (fun r => ⟨ex pf r, Nat.lt_succ_of_le (hle r)⟩) (pf 1 ix0) :=
  (dats V pf hO 0 c).arrAt_eq_of_cover 3 _ (fun t _ => flushed_eq V pf hO hle c t) (cover pf hO)

end

/-- The first reference's result is the gated products at the tile plan of its chosen experts. -/
theorem ref_eq (W : Valuation ReferenceIdeal.τ ReferenceIdeal.sig (Elt Ideal)) (E : Fin 72 → Fin 8)
    (hE : ∀ r, (E r).val = (Plan.te (Plan.ends (GateUpRef.argI W)) (ValueIdx.ix1 r)).toNat) :
    GateUpRef.result W = gated (GateUpRef.argX W) (GateUpRef.argW W) E (Plan.nu (Plan.ends (GateUpRef.argI W)) (ValueIdx.ix1 (0 : Fin 1))) := by
  funext (i : S36864x5632.Idx)
  obtain ⟨n, f, rfl⟩ : ∃ (n : Fin 36864) (f : Fin 5632), i = ix2 n f :=
    ⟨i 0, i 1, funext fun a => match a with | 0 => rfl | 1 => rfl⟩
  obtain ⟨d, hd⟩ : ∃ d, Plan.ends (GateUpRef.argI W) = Plan.endsOf d := ⟨_, rfl⟩
  rw [hd] at hE
  rw [GateUpRef.result_apply W n f (E (Plan.tileOf n)) (by
    rw [← Plan.ends_eq, ix1_eq_valueIdx, hd]
    intro h
    rw [Plan.rowPast_te _ _ h, hE, BitVec.ofNat_toNat, BitVec.setWidth_eq])]
  rw [← Plan.ends_eq, ix1_eq_valueIdx, hd]
  show _ = if IntOp.cmpi .slt (BitVec.ofNat 32 (Plan.tileOf n).val) _ = 1#1 then act (dotAt _ _ (E (Plan.tileOf n)) n ⟨f.val, _⟩)
    (dotAt _ _ (E (Plan.tileOf n)) n ⟨5632 + f.val, _⟩) else 0
  by_cases h : Plan.used (Plan.endsOf d) (ValueIdx.ix1 n) = 1#1
  · rw [if_pos h]; exact (if_pos ((Plan.used_tile d n).mp h)).symm
  · rw [if_neg h]; exact (if_neg (fun k => h ((Plan.used_tile d n).mpr k))).symm

/-- The kernel's result array holds the reference's result, when they are given the same arguments. -/
theorem arr_eq (m : (ℓ : Loc nD τ sig) → Buf (Elt Ideal) ℓ) (c : Dev nD) (W : Valuation ReferenceIdeal.τ ReferenceIdeal.sig (Elt Ideal))
    (h0 : GateUpRef.argI W = topIdx m 0) (h1 : GateUpRef.argX W = m ((c.tc : Thread nD τ).loc main_arg1))
    (h2 : GateUpRef.argW W = m ((c.tc : Thread nD τ).loc main_arg2)) :
    GateUpRef.result W = (dats (V m) (tbl m) (ok m) 0 c).arrAt 3 (cfgM (tbl m) (ok m)).N := by
  rw [final (V m) (tbl m) (ok m) (ex_le m) c,
    ref_eq W (fun r => ⟨ex (tbl m) r, Nat.lt_succ_of_le (ex_le m r)⟩) (fun r => by
      show (tes m (ValueIdx.ix1 r)).toNat = _
      rw [tes_eq, h0]), h1, h2, h0]
  have e1 : V m c main_arg1 = m ((c.tc : Thread nD τ).loc main_arg1) := (Vd_args m c).2.1
  have e2 : V m c main_arg2 = m ((c.tc : Thread nD τ).loc main_arg2) := (Vd_args m c).2.2
  have en : tbl m 1 ix0 = Plan.nu (Plan.ends (topIdx m 0)) (ValueIdx.ix1 (0 : Fin 1)) := by
    rw [← nus_eq]; exact congrArg (nus m) (funext fun a => match a with | 0 => rfl)
  rw [e1, e2, en]

end Cert.KernelIdeal.GateUp

end
-- ==== Proof.GateUp.Claims.lean ====
module

public import proofs.«01_k».proof.Defs
public import proofs.«01_k».proof.Proof.GateUp.Same
public import proofs.«01_k».proof.Proof.GateUp.Value
public import Idealize.ShloMosaic.Lib.Quiescent

@[expose] public section

set_option maxRecDepth 16384

noncomputable section

/-! The claims about the first kernel, from its run and its value. -/

namespace Cert.GateUpClaims

open Idealize.ShloMosaic Idealize.ShloMosaic.TcCoe Idealize.SL.Sem
open Cert.KernelIdeal.GateUp (run_main arr_eq)

/-- The kernel terminates, its arguments unchanged and its counters at zero: over extended reals, -/
theorem frame_ideal : Cert.quiescent_KernelIdeal := fun m ρ _ =>
  (θ_run Cert.KernelIdeal.defs _ _).mono (fun _ h => ⟨fun c => (h.1 c).2, h.2⟩) (run_main (F := Ideal) m ρ)

/-- and as launched: the two programs have one text. -/
theorem frame_kernel : Cert.quiescent_Kernel := fun m ρ _ =>
  GateUpSame.run_kernel _ _ ((θ_run Cert.KernelIdeal.defs _ _).mono (fun _ h => ⟨fun c => (h.1 c).2, h.2⟩) (run_main (F := Bits) m ρ))

/-- The reference terminates with its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel's result is the reference's, element by element, on equal arguments. -/
theorem value : Cert.algebraic_KernelIdeal_ReferenceIdeal := fun m ρ m' ρ' _ hag =>
  ⟨fun c => (Cert.KernelIdeal.GateUp.dats (Cert.KernelIdeal.GateUp.V m) (Cert.KernelIdeal.GateUp.tbl m) (Cert.KernelIdeal.GateUp.ok m) 0 c).arrAt 3
      (Cert.KernelIdeal.GateUp.cfgM (Cert.KernelIdeal.GateUp.tbl m) (Cert.KernelIdeal.GateUp.ok m)).N,
    (θ_run Cert.KernelIdeal.defs _ _).mono (fun _ h c => h.1 c) (run_main (F := Ideal) m ρ),
    (θ_run Cert.ReferenceIdeal.defs _ _).mono (fun _ h c => ⟨(h c).1.trans
      (arr_eq m c (StableHlo.launchContents m' c) (by obtain rfl : c = 0 := Subsingleton.elim _ _; exact (hag 0).1) (hag c).2.1 (hag c).2.2), (h c).2⟩)
      (Cert.ReferenceIdeal.Value.run (F := Ideal) m' ρ')⟩

end Cert.GateUpClaims

end
-- ==== Proof.Down.Same.lean ====
module

public import proofs.«01_k».proof.Proof.Gen.Kernel2.Launch
public import proofs.«01_k».proof.Proof.Gen.Kernel2Ideal.Launch
public import proofs.«01_k».proof.Proof.Transport

@[expose] public section

set_option maxRecDepth 16384
set_option maxHeartbeats 400000

noncomputable section

/-! The second kernel and its idealization have one text: a run of the one is a run of the other. -/

namespace Cert.DownSame

open Idealize.ShloMosaic Idealize.ShloMosaic.TcCoe Idealize.SL.Sem

variable {F : FTy → Type} [FloatOps F]

/-- The two programs' calls are the same pipeline, -/
theorem pcfgs_eq : Kernel2Ideal.pcfgs (F := F) = Kernel2.pcfgs (F := F) := rfl

/-- with the same body, -/
theorem body_eq : Kernel2Ideal.cc0_moe_down (F := F) = Kernel2.cc0_moe_down (F := F) := rfl

/-- in the same table. -/
theorem defs₀_eq : Kernel2Ideal.defs₀ (F := F) = Kernel2.defs₀ (F := F) := by
  unfold Kernel2.defs₀ Kernel2Ideal.defs₀
  refine congrArg (Defs.onTc (nD := Kernel2.nD) (τ := Kernel2.τ) (sig := Kernel2.sig) (Λ := Kernel2.Λ₀)) (funext fun (l : Fin 1) => funext fun x => ?_)
  match l, x with
  | 0, (t, s) => rfl

/-- The two programs' host operations, in stretches. -/
def opsI : List (List (HloOp Kernel2Ideal.τ Kernel2Ideal.sig (Elt F))) :=
  [Kernel2Ideal.Gen.hostOps0, Kernel2Ideal.Gen.hostOps0_1, Kernel2Ideal.Gen.hostOps0_2, Kernel2Ideal.Gen.hostOps0_3, Kernel2Ideal.Gen.hostOps0_4,
    Kernel2Ideal.Gen.hostOps0_5, Kernel2Ideal.Gen.hostOps0_6, Kernel2Ideal.Gen.hostOps0_7]
def opsK : List (List (HloOp Kernel2.τ Kernel2.sig (Elt F))) :=
  [Kernel2.Gen.hostOps0, Kernel2.Gen.hostOps0_1, Kernel2.Gen.hostOps0_2, Kernel2.Gen.hostOps0_3, Kernel2.Gen.hostOps0_4,
    Kernel2.Gen.hostOps0_5, Kernel2.Gen.hostOps0_6, Kernel2.Gen.hostOps0_7]

theorem host_eq : (Kernel2Ideal.Gen.hostOps0 (F := F)) = Kernel2.Gen.hostOps0 (F := F) := rfl
theorem host_1_eq : (Kernel2Ideal.Gen.hostOps0_1 (F := F)) = Kernel2.Gen.hostOps0_1 (F := F) := rfl
theorem host_2_eq : (Kernel2Ideal.Gen.hostOps0_2 (F := F)) = Kernel2.Gen.hostOps0_2 (F := F) := rfl
theorem host_3_eq : (Kernel2Ideal.Gen.hostOps0_3 (F := F)) = Kernel2.Gen.hostOps0_3 (F := F) := rfl
theorem host_4_eq : (Kernel2Ideal.Gen.hostOps0_4 (F := F)) = Kernel2.Gen.hostOps0_4 (F := F) := rfl
theorem host_5_eq : (Kernel2Ideal.Gen.hostOps0_5 (F := F)) = Kernel2.Gen.hostOps0_5 (F := F) := rfl
theorem host_6_eq : (Kernel2Ideal.Gen.hostOps0_6 (F := F)) = Kernel2.Gen.hostOps0_6 (F := F) := rfl
theorem host_7_eq : (Kernel2Ideal.Gen.hostOps0_7 (F := F)) = Kernel2.Gen.hostOps0_7 (F := F) := rfl

theorem ops_eq : (opsI (F := F)) = opsK (F := F) := by
  unfold opsI opsK
  rw [host_eq, host_1_eq, host_2_eq, host_3_eq, host_4_eq, host_5_eq, host_6_eq, host_7_eq]

/-- A run of the idealization's text is a run of the kernel's. -/
theorem run_kernel (s : MemSt Kernel2.nD Kernel2.τ Kernel2.sig (Elt F)) (Q : PUnit × MemSt Kernel2.nD Kernel2.τ Kernel2.sig (Elt F) → Prop)
    (hr : θ_run (Kernel2Ideal.defs (F := F)) (onTc (τ := Kernel2Ideal.τ) (Kernel2Ideal.main (F := F))) s Q) :
    θ_run (Kernel2.defs (F := F)) (onTc (τ := Kernel2.τ) (Kernel2.main (F := F))) s Q :=
  Transport.run_of_same (Kernel2Ideal.pcfgs (F := F)) (Kernel2.pcfgs (F := F)) pcfgs_eq Kernel2Ideal.defs₀ Kernel2.defs₀ defs₀_eq
    opsI opsK ops_eq Kernel2Ideal.main Kernel2.main (fun c => Kernel2Ideal.Gen.main_chain c) (fun c => Kernel2.Gen.main_chain c) s Q hr

end Cert.DownSame

end
-- ==== Proof.Down.Body.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Tactic
public import Idealize.ShloMosaic.Lib.VecWindow
public import Idealize.ShloMosaic.Lib.WordCmp

@[expose] public section

set_option maxRecDepth 16384

noncomputable section

namespace Cert.Kernel2Ideal.Down

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The experts' table as the body is handed it. -/
abbrev teM : Memref sig .tc .smem S72 .i32 := Memref.whole main_v30
abbrev hteM : teM.IsWhole := Memref.isWhole_whole _
/-- The number of used tiles as the body is handed it. -/
abbrev nuM : Memref sig .tc .smem S1 .i32 := Memref.whole main_v32
abbrev hnuM : nuM.IsWhole := Memref.isWhole_whole _

/-- A table's contents on core `c`. -/
abbrev TbBuf (c : Dev nD) {S : Shape} {e : EltTy} (M : Memref sig .tc .smem S e) : Type := Buf (Elt F) (M.view.loc (c : Thread nD τ))
/-- A table held for reading: half the share of its buffer. -/
abbrev tbPt (c : Dev nD) {S : Shape} {e : EltTy} (M : Memref sig .tc .smem S e) (f : TbBuf (F := F) c M) : sProp 𝕄 :=
  M.view.loc (c : Thread nD τ) ↦{fullShare.right} f

/-- The index of tile `r` in the experts' table. -/
def ixT (r : Fin 72) : S72.Idx := fun a => match a with | 0 => r
/-- The one index of the table that holds the number of used tiles. -/
def ix0 : S1.Idx := fun a => match a with | 0 => (0 : Fin 1)
/-- The tile before `r` (tile 0's is tile 0). -/
def prevT (r : Fin 72) : Fin 72 := ⟨r.val - 1, by omega⟩

theorem pos1 : 0 < S1.numel := by rw [numel1_S1]; exact Nat.one_pos

/-- The body's read of the experts' table at its own tile. -/
theorem te_cur (pf : S72.Idx → BitVec 32) (i : grid0.Coords) (h : 0 < S1.numel) :
    pf ((Rect.unit (s := S72) (k0_off1 i) S1.size (k0_off1_inb i)).emb (Shape.Idx.first h)) = pf (ixT (i 1)) := by
  congr 1; funext a
  obtain rfl : a = 0 := Subsingleton.elim _ _
  have h72 : (i 1).val < 72 := (i 1).isLt
  apply Fin.ext
  show k0_off1 i 0 + 1 * 0 = (i 1).val
  unfold k0_off1
  show (BitVec.ofNat 32 (i 1).val).toNat + _ = _
  rw [BitVec.toNat_ofNat]; omega

/-- The body's read of the experts' table at the tile before its own. -/
theorem te_prev (pf : S72.Idx → BitVec 32) (i : grid0.Coords) (h : 0 < S1.numel) (h0 : (i 1).val ≠ 0) :
    pf ((Rect.unit (s := S72) (k0_off2 i) S1.size (k0_off2_inb i)).emb (Shape.Idx.first h)) = pf (ixT (prevT (i 1))) := by
  congr 1; funext a
  obtain rfl : a = 0 := Subsingleton.elim _ _
  have h72 : (i 1).val < 72 := (i 1).isLt
  apply Fin.ext
  show k0_off2 i 0 + 1 * 0 = (i 1).val - 1
  have key : ∀ n : Fin 72, n.val ≠ 0 → (IntOp.maxsi (BitVec.ofNat 32 n.val - 1#32) 0#32).toNat = n.val - 1 := by decide
  have := key (i 1) h0
  unfold k0_off2
  show (IntOp.maxsi (BitVec.ofNat 32 (i 1).val - 1#32) 0#32).toNat + _ = _
  omega

/-- The body's read of the number of used tiles. -/
theorem nu_cur (pf : S1.Idx → BitVec 32) (x : S1.Idx) : pf x = pf ix0 := by
  congr 1; funext a
  obtain rfl : a = 0 := Subsingleton.elim _ _
  exact Subsingleton.elim (α := Fin 1) _ _

/-- The weight blocks are kept only on a tile that is not the first of its column and has the expert of the tile before. -/
theorem keep_of (i : grid0.Coords) (a b : BitVec 32)
    (h : ¬ Scalar.cmpi .ne ((Scalar.extui (Scalar.ori (Scalar.cmpi .eq (BitVec.ofNat 32 (i 1).val) 0#32) (Scalar.cmpi .ne a b)) : BitVec 32)) 0#32 = 1#1) :
    (i 1).val ≠ 0 ∧ a = b := by
  have key : ∀ p q : Bool, ¬ IntOp.cmpi .ne (((IntOp.ori (BitVec.ofBool p) (BitVec.ofBool q))).setWidth 32) 0#32 = 1#1 → p = false ∧ q = false := by decide
  have h' := key (decide (BitVec.ofNat 32 (i 1).val = 0#32)) (decide (a ≠ b)) (by rw [← WordCmp.cmpi_eq_eq, ← WordCmp.cmpi_ne_eq]; exact h)
  have h1 := of_decide_eq_false h'.1
  have h2 := of_decide_eq_false h'.2
  refine ⟨fun e => h1 (by rw [e]), not_not.1 h2⟩

/-- The product is stored exactly where the zeros are not. -/
theorem cond3_iff (i : grid0.Coords) (v : BitVec 32) : k0_cond3 i v = 1#1 ↔ ¬ k0_cond2 i v = 1#1 := by
  unfold k0_cond2 k0_cond3
  show IntOp.cmpi .ne ((IntOp.cmpi .sge _ _).setWidth 32) 0#32 = 1#1 ↔ ¬ IntOp.cmpi .ne ((IntOp.cmpi .slt _ _).setWidth 32) 0#32 = 1#1
  rw [WordCmp.cmpi_sge_eq, WordCmp.cmpi_slt_eq]
  have key : ∀ p : Bool, IntOp.cmpi .ne ((BitVec.ofBool p).setWidth 32) 0#32 = 1#1 ↔ p = true := by decide
  rw [key, key, decide_eq_true_iff, decide_eq_true_iff, not_lt]

/-- What the body leaves in the output's block: the product of the tile's rows and its expert's weights on a used tile, zeros on the others. -/
def outv (i : grid0.Coords) (nu : BitVec 32) (x0 : Vec F S512x5632 .bf16) (x1 : Vec F S1x1x5632x512 .f32) : Vec F S512x1x512 .f32 :=
  if k0_cond2 i nu = 1#1 then k0_pay2 x0 (k0_pay1 x1) else k0_pay3

set_option maxHeartbeats 1000000 in
/-- The body's triple, on whole memrefs: where the scratch holds the weight block's rounding whenever the body keeps it, it
    holds it afterwards, and the output block holds `outv`. -/
theorem body_run (c : Dev nD) (i : grid0.Coords)
    (arg4 : Memref sig .tc .vmem S512x5632 .bf16) (harg4 : arg4.IsWhole)
    (arg5 : Memref sig .tc .vmem S1x1x5632x512 .f32) (harg5 : arg5.IsWhole)
    (arg6 : Memref sig .tc .vmem S512x1x512 .f32) (harg6 : arg6.IsWhole)
    (arg7 : Memref sig .tc .vmem S5632x512 .bf16) (harg7 : arg7.IsWhole)
    (x0 : Vec F S512x5632 .bf16) (x1 : Vec F S1x1x5632x512 .f32) (s7 : Vec F S5632x512 .bf16)
    (t0 : TbBuf (F := F) c teM) (t1 : TbBuf (F := F) c nuM)
    (hkeep : (i 1).val ≠ 0 → t0 (ixT (i 1)) = t0 (ixT (prevT (i 1))) → s7 = k0_pay1 x1)
    (E : Set ℕ) (K : PUnit → sProp 𝕄) :
    iprop(owns (c : Thread nD τ) arg4 fullShare x0 ∗ owns (c : Thread nD τ) arg5 fullShare x1
        ∗ (∃ d, owns (c : Thread nD τ) arg6 fullShare d) ∗ tbPt c teM t0 ∗ tbPt c nuM t1
        ∗ owns (c : Thread nD τ) arg7 fullShare s7
        ∗ (iprop(owns (c : Thread nD τ) arg4 fullShare x0 ∗ owns (c : Thread nD τ) arg5 fullShare x1
            ∗ owns (c : Thread nD τ) arg6 fullShare (outv i (t1 ix0) x0 x1) ∗ tbPt c teM t0 ∗ tbPt c nuM t1
            ∗ owns (c : Thread nD τ) arg7 fullShare (k0_pay1 x1)) -∗ K ⟨⟩))
      ⊢ wp frame (wpE (defs₀ (F := F)) Variants.none c none) E
          (cc0_moe_down i teM hteM nuM hnuM arg4 harg4 arg5 harg5 arg6 harg6 arg7 harg7) K := by
  simp only [cc0_moe_down_eq_skeleton]; unfold cc0_moe_down_skel
  unfold owns
  iintro ⟨⟨%f4, %hf4, H4⟩, ⟨%f5, %hf5, H5⟩, ⟨%d6, %f6, -, H6⟩, HT0, HT1, ⟨%f7, %hf7, H7⟩, Hk⟩
  obtain rfl := harg4.eq_unread hf4; obtain rfl := harg5.eq_unread hf5
  obtain rfl := harg7.eq_unread hf7
  sl_exec
  sl_step
  have r4 := (View.readAt_full arg4.view (harg4.unread x0) inb_S512x5632_S512x5632_0_0).trans hf4
  have r5 := (View.readAt_full arg5.view (harg5.unread x1) inb_S1x1x5632x512_S1x1x5632x512_0_0_0_0).trans hf5
  have e7 : arg7.view.read (Elt F) (if hc : body_run.sl.v10 c i t0 = 1#1 then
      arg7.view.writes (Elt F) (harg7.unread s7) [⟨Rect.unit ![0, 0] S5632x512.size inb_S5632x512_S5632x512_0_0,
        k0_pay1 (View.readAt (Elt F) arg5.view (Rect.unit ![0, 0, 0, 0] S1x1x5632x512.size inb_S1x1x5632x512_S1x1x5632x512_0_0_0_0).toLoadRect (harg5.unread x1))⟩]
      else harg7.unread s7) = k0_pay1 x1 := by
    split
    · rw [View.read_writes_full, r5]
    · rename_i hc
      obtain ⟨h0, h1⟩ := keep_of i _ _ hc
      exact hf7.trans (hkeep h0 ((te_cur t0 i pos1).symm.trans (h1.trans (te_prev t0 i pos1 h0))))
  have v20 : body_run.sl.v20 c i arg5 harg5 arg7 harg7 x1 s7 t0 = k0_pay1 x1 := (View.readAt_full _ _ _).trans e7
  have hnu : body_run.sl.r_2 c t1 = t1 ix0 := nu_cur t1 _
  rw [v20, r4, hnu]
  iapply Hk
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    unfold outv
    by_cases hc : k0_cond2 i (t1 ix0) = 1#1
    · rw [dif_neg (fun h => (cond3_iff i _).1 h hc), dif_pos hc, if_pos hc, View.read_writes_full]
    · rw [dif_pos ((cond3_iff i _).2 hc), if_neg hc, View.read_writes_full]
  isplitl [HT0]; · iexact HT0
  isplitl [HT1]; · iexact HT1
  iexists _; isplitr; swap; · iexact H7
  ipureintro; exact e7

end Cert.Kernel2Ideal.Down

end
-- ==== Proof.Down.Pipe.lean ====
module

public import proofs.«01_k».proof.Proof.Down.Body
public import proofs.«01_k».proof.Proof.Live
public import Idealize.ShloMosaic.Lib.Pipeline.Value
public import Idealize.ShloMosaic.Lib.Claim
public import Idealize.ShloMosaic.Lib.ValueIdxCore

@[expose] public section

set_option maxRecDepth 16384

noncomputable section

namespace Cert.Kernel2Ideal.Down

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1)

variable {F : FTy → Type} [FloatOps F]

local notation "𝕄" => MT nD τ sig Unit (Elt F) ℕ (UR sig nD τ) ℕ

variable (V : (c : Dev nD) → (b : Ref sig .tc) → Buf (Elt F) ((c : Thread nD τ).loc b)) (pf : pre0.Contents (Elt F))

/-! ## The blocks' places, at any tables whose experts are among the eight -/

/-- The expert of tile `r`. -/
abbrev ex (r : Fin 72) : ℕ := (pf 0 (ix1 r) : BitVec 32).toNat

theorem ixT_eq (r : Fin 72) : ixT r = ix1 r := eq_ix1 _

/-- The weights' block: the tile's expert and the column's block. -/
theorem t1_eq (i : grid0.Coords) : cc0_transform_1 k0_off1_inb numel1_S1 pf i = ![0, ex pf (i 1), 0, (i 0).val] := by
  have h0 : (i 0).val < 4 := (i 0).isLt
  have e : (pf.at 0 (Rect.unit (s := S72) (k0_off1 i) S1.size (k0_off1_inb i)) numel1_S1 : BitVec 32).toNat = ex pf (i 1) := by
    unfold Pipeline.Prefetch.Contents.at ex
    exact congrArg BitVec.toNat ((te_cur (pf 0) i _).trans (congrArg _ (ixT_eq _)))
  funext a
  match a with
  | 0 => rfl
  | 1 => exact e
  | 2 => rfl
  | 3 => show (BitVec.ofNat 32 (i 0).val).toNat = (i 0).val; rw [BitVec.toNat_ofNat]; omega

/-- The rows' block: the tile's. -/
theorem t0_eq (i : grid0.Coords) : cc0_transform_0 i = ![(i 1).val, 0] := by
  have h0 : (i 1).val < 72 := (i 1).isLt
  funext a
  match a with
  | 0 => show (BitVec.ofNat 32 (i 1).val).toNat = (i 1).val; rw [BitVec.toNat_ofNat]; omega
  | 1 => rfl
/-- The result's block: the tile's rows and the column's block. -/
theorem t2_eq (i : grid0.Coords) : cc0_transform_2 i = ![(i 1).val, 0, (i 0).val] := by
  have h0 : (i 0).val < 4 := (i 0).isLt
  have h1 : (i 1).val < 72 := (i 1).isLt
  funext a
  match a with
  | 0 => show (BitVec.ofNat 32 (i 1).val).toNat = (i 1).val; rw [BitVec.toNat_ofNat]; omega
  | 1 => rfl
  | 2 => show (BitVec.ofNat 32 (i 0).val).toNat = (i 0).val; rw [BitVec.toNat_ofNat]; omega

/-- It holds of tables whose tiles' experts are among the eight. -/
theorem ok_of (hle : ∀ r, ex pf r ≤ 7) : ok0 (F := F) pf := by
  refine fun i => ⟨?_, .inl rfl⟩
  have h0 : (i 0).val < 4 := (i 0).isLt
  have hr := hle (i 1)
  rw [t1_eq pf]; intro a
  match a with
  | 0 => show (0 + 1) * 1 ≤ 2; omega
  | 1 => show (ex pf (i 1) + 1) * 1 ≤ 8; omega
  | 2 => show (0 + 1) * 5632 ≤ 5632; omega
  | 3 => show ((i 0).val + 1) * 512 ≤ 2048; omega

variable (hO : ok0 (F := F) pf)

/-- The pipeline at the tables. -/
abbrev cfgM : Pipeline.Cfg sig Λ₀ := cfg0 ⟨pf, hO⟩

/-- The halves of the tables that the body is handed. -/
theorem PhiT_eq (c : Dev nD) : (Pipeline.ΦT pre0 pf c : sProp 𝕄) = iprop(tbPt c teM (pf 0) ∗ tbPt c nuM (pf 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array. -/
def iblk (c : Dev nD) (w : Fin (cfgM pf hO).W) (t : Fin (cfgM pf hO).N) : (((cfgM pf hO).win w).xblock ((cfgM pf hO).grid.coords t)).Idx → Elt F ((cfgM pf hO).win w).elt :=
  (((cfgM pf hO).win w).blk t).view.read (Elt F) (V c (Pipeline.arrRef spec0 w))

theorem before0_of {c : Dev nD} (dat : Dat τ (Elt F) Unit ℕ (UR sig nD τ) ℕ (cfgM pf hO) c) (hA : dat.A 0 = V c (Pipeline.arrRef spec0 0))
    (hafter : ∀ t, dat.after 0 t = iblk V pf hO c 0 t) (t : Fin (cfgM pf hO).N) (d) : dat.before 0 t d = iblk V pf hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ (cfgM pf hO) c) (hA : dat.A 1 = V c (Pipeline.arrRef spec0 1))
    (hafter : ∀ t, dat.after 1 t = iblk V pf hO c 1 t) (t : Fin (cfgM pf hO).N) (d) : dat.before 1 t d = iblk V pf hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Where the tile's rows sit in the rows' array. -/
theorem iblk0_apply (c : Dev nD) (t : Fin (cfgM pf hO).N) (y : S512x5632.Idx) (k : S36864x5632.Idx)
    (h0 : (k 0).val = (grid0.coords t 1).val * 512 + (y 0).val) (h1 : (k 1).val = (y 1).val) :
    iblk V pf hO c 0 t y = V c main_arg1 k := by
  show V c main_arg1 ((((cfgM pf hO).win 0).rect t).emb y) = _
  refine congrArg (V c main_arg1) (funext fun (a : Fin 2) => Fin.ext ((Window.rect_emb_val ((cfgM pf hO).win 0) t y a).trans ?_))
  show cc0_transform_0 (grid0.coords t) a * S512x5632.size a + (y a).val = _
  rw [t0_eq]
  match a with
  | 0 => exact h0.symm
  | 1 => exact (Nat.zero_add _).trans h1.symm

/-- Where the weight block of a point sits in the weights' array. -/
theorem iblk1_apply (c : Dev nD) (t : Fin (cfgM pf hO).N) (y : S1x1x5632x512.Idx) (k : S2x8x5632x2048.Idx)
    (h0 : (k 0).val = 0) (h1 : (k 1).val = ex pf (grid0.coords t 1)) (h2 : (k 2).val = (y 2).val)
    (h3 : (k 3).val = (grid0.coords t 0).val * 512 + (y 3).val) :
    iblk V pf hO c 1 t y = V c main_arg2 k := by
  show V c main_arg2 ((((cfgM pf hO).win 1).rect t).emb y) = _
  refine congrArg (V c main_arg2) (funext fun (a : Fin 4) => Fin.ext ((Window.rect_emb_val ((cfgM pf hO).win 1) t y a).trans ?_))
  show cc0_transform_1 k0_off1_inb numel1_S1 pf (grid0.coords t) a * S1x1x5632x512.size a + (y a).val = _
  rw [t1_eq pf]
  have y0 : (y 0).val < 1 := (y 0).isLt
  have y1 : (y 1).val < 1 := (y 1).isLt
  match a with
  | 0 => show 0 * 1 + (y 0).val = (k 0).val; omega
  | 1 => show ex pf (grid0.coords t 1) * 1 + (y 1).val = (k 1).val; omega
  | 2 => show 0 * 5632 + (y 2).val = (k 2).val; omega
  | 3 => exact h3.symm

/-- An index of the weights' array from its coordinates. -/
def wix (e : Fin 8) (x : Fin 5632) (f : Fin 2048) : S2x8x5632x2048.Idx :=
  fun a => match a with | 0 => (0 : Fin 2) | 1 => e | 2 => x | 3 => f

/-- Two points of one column whose tiles have one expert have the same weight block. -/
theorem iblk_same (hle : ∀ r, ex pf r ≤ 7) (c : Dev nD) (s t : Fin (cfgM pf hO).N) (h0 : grid0.coords s 0 = grid0.coords t 0)
    (he : ex pf (grid0.coords s 1) = ex pf (grid0.coords t 1)) :
    (iblk V pf hO c 1 s : Vec F S1x1x5632x512 .f32) = iblk V pf hO c 1 t := by
  have hj : (grid0.coords t 0).val < 4 := (grid0.coords t 0).isLt
  have hr := hle (grid0.coords t 1)
  funext (y : S1x1x5632x512.Idx)
  have y2 : (y 2).val < 5632 := (y 2).isLt
  have y3 : (y 3).val < 512 := (y 3).isLt
  let k := wix ⟨ex pf (grid0.coords t 1), by omega⟩ ⟨(y 2).val, y2⟩ ⟨(grid0.coords t 0).val * 512 + (y 3).val, by omega⟩
  rw [iblk1_apply V pf hO c s y k rfl he.symm rfl (by rw [h0]; rfl), iblk1_apply V pf hO c t y k rfl rfl rfl rfl]

/-- A point's column and tile. -/
theorem coord0 (t : Fin grid0.N) : (grid0.coords t 0).val = t.val / 72 % 4 := Pipeline.Grid.coords_val t 0 (by decide) rfl
theorem coord1 (t : Fin grid0.N) : (grid0.coords t 1).val = t.val / 1 % 72 := Pipeline.Grid.coords_val t 1 (by decide) rfl

/-- The point before one that is not the first of its column: the same column, the tile before. -/
theorem prev_point (t : Fin grid0.N) (h0 : (grid0.coords t 1).val ≠ 0) :
    ∃ s : Fin grid0.N, s.val + 1 = t.val ∧ grid0.coords s 0 = grid0.coords t 0 ∧ grid0.coords s 1 = prevT (grid0.coords t 1) := by
  have hN : t.val < 288 := lt_of_lt_of_eq t.isLt N_0
  have c0 := coord0 t
  have c1 := coord1 t
  obtain ⟨n, hn⟩ : ∃ n, n + 1 = t.val := ⟨t.val - 1, by omega⟩
  refine ⟨⟨n, by rw [N_0]; omega⟩, hn, Fin.ext ?_, Fin.ext ?_⟩
  · rw [coord0, coord0]; show n / 72 % 4 = _; omega
  · rw [coord1]; show n / 1 % 72 = (grid0.coords t 1).val - 1; omega

/-! ## The pipeline's proof data -/

/-- The rounding of the weight block that the body keeps from the point before. -/
def Kept (c : Dev nD) (n : ℕ) (s7 : Vec F S5632x512 .bf16) : Prop :=
  ∀ s : Fin grid0.N, s.val + 1 = n → s7 = k0_pay1 (iblk V pf hO c 1 s)

/-- The invariant before point `t`: the scratch holds the rounding of the point before. -/
def Phi (c : Dev nD) (t : Fin ((cfgM pf hO).N + 1)) : sProp 𝕄 :=
  iprop((∃ s7, ⌜Kept V pf hO c t.val s7⌝ ∗ owns (c : Thread nD τ) (Memref.whole cc0_scratch0) fullShare s7)
    ∗ (∃ r, prngReg c r) ∗ tbPt c teM (pf 0) ∗ tbPt c nuM (pf 1))

/-- What the output's block holds after point `t`. -/
def outAt (c : Dev nD) (t : Fin (cfgM pf hO).N) : Vec F S512x1x512 .f32 :=
  outv (grid0.coords t) (pf 1 ix0) (iblk V pf hO c 0 t) (iblk V pf hO c 1 t)

/-- The proof data of the pipeline on core `c`. -/
def dats (_ : Fin 1) (c : Dev nD) : Dat τ (Elt F) Unit ℕ (UR sig nD τ) ℕ (cfgM pf hO) c where
  A w := V c (Pipeline.arrRef spec0 w)
  after w t := match w with
    | ⟨0, _⟩ => iblk V pf hO c 0 t
    | ⟨1, _⟩ => iblk V pf hO c 1 t
    | ⟨2, _⟩ => outAt V pf hO c t
  Φ t := Phi V pf hO c t
  q _ := fullShare
  owed _ := 0

theorem A_eq (c : Dev nD) (w : Fin (cfgM pf hO).W) : (dats V pf hO 0 c).A w = V c (Pipeline.arrRef spec0 w) := by
  dsimp only [dats]
theorem after0 (c : Dev nD) (t : Fin (cfgM pf hO).N) : (dats V pf hO 0 c).after 0 t = iblk V pf hO c 0 t := by dsimp only [dats]; try rfl
theorem after1 (c : Dev nD) (t : Fin (cfgM pf hO).N) : (dats V pf hO 0 c).after 1 t = iblk V pf hO c 1 t := by dsimp only [dats]; try rfl
theorem after2 (c : Dev nD) (t : Fin (cfgM pf hO).N) : (dats V pf hO 0 c).after 2 t = outAt V pf hO c t := by dsimp only [dats]; try rfl
theorem before0 (c : Dev nD) (t : Fin (cfgM pf hO).N) (d) : (dats V pf hO 0 c).before 0 t d = iblk V pf hO c 0 t := before0_of V pf hO _ (A_eq V pf hO c 0) (after0 V pf hO c) t d
theorem before1 (c : Dev nD) (t : Fin (cfgM pf hO).N) (d) : (dats V pf hO 0 c).before 1 t d = iblk V pf hO c 1 t := before1_of V pf hO _ (A_eq V pf hO c 1) (after1 V pf hO c) t d

/-- The current staging buffers, and the body at point `t` on them. -/
abbrev ms0 (t : Fin (cfgM pf hO).N) : Memref sig .tc .vmem S512x5632 .bf16 := spec0_0.stage ((cfgM pf hO).slots t 0)
abbrev ms1 (t : Fin (cfgM pf hO).N) : Memref sig .tc .vmem S1x1x5632x512 .f32 := spec0_1.stage ((cfgM pf hO).slots t 1)
abbrev ms2 (t : Fin (cfgM pf hO).N) : Memref sig .tc .vmem S512x1x512 .f32 := spec0_2.stage ((cfgM pf hO).slots t 2)
abbrev bodyAt (t : Fin (cfgM pf hO).N) : Prog (TpuEff nD τ sig (Elt F) Λ₀ .tc) PUnit :=
  cc0_moe_down (grid0.coords t) teM hteM nuM hnuM (ms0 pf hO t) (hstage0_0 (((cfgM pf hO).slots t 0).cast nbuf0_0))
    (ms1 pf hO t) (hstage0_1 (((cfgM pf hO).slots t 1).cast nbuf0_1)) (ms2 pf hO t) (hstage0_2 (((cfgM pf hO).slots t 2).cast nbuf0_2))
    (Memref.whole cc0_scratch0) (Memref.isWhole_whole _)

def bodyPre (c : Dev nD) (t : Fin (cfgM pf hO).N) : sProp 𝕄 :=
  iprop((dats V pf hO 0 c).Φ t.castSucc ∗ (dats V pf hO 0 c).owesAt () t.castSucc
    ∗ (∃ d, owns (c : Thread nD τ) (ms0 pf hO t) fullShare ((dats V pf hO 0 c).before 0 t d))
    ∗ (∃ d, owns (c : Thread nD τ) (ms1 pf hO t) fullShare ((dats V pf hO 0 c).before 1 t d))
    ∗ (∃ d, owns (c : Thread nD τ) (ms2 pf hO t) fullShare ((dats V pf hO 0 c).before 2 t d)))
def bodyPost (c : Dev nD) (t : Fin (cfgM pf hO).N) : sProp 𝕄 :=
  iprop((dats V pf hO 0 c).Φ t.succ ∗ (dats V pf hO 0 c).owesAt () t.succ
    ∗ owns (c : Thread nD τ) (ms0 pf hO t) fullShare ((dats V pf hO 0 c).after 0 t)
    ∗ owns (c : Thread nD τ) (ms1 pf hO t) fullShare ((dats V pf hO 0 c).after 1 t)
    ∗ owns (c : Thread nD τ) (ms2 pf hO t) fullShare ((dats V pf hO 0 c).after 2 t))

/-- On a tile that is not the first of its column and has the expert of the tile before, what the scratch holds is the
    rounding of the point's own block. -/
theorem kept_here (hle : ∀ r, ex pf r ≤ 7) (c : Dev nD) (t : Fin (cfgM pf hO).N) (s7 : Vec F S5632x512 .bf16) (hk : Kept V pf hO c t.val s7)
    (h0 : (grid0.coords t 1).val ≠ 0) (he : pf 0 (ixT (grid0.coords t 1)) = pf 0 (ixT (prevT (grid0.coords t 1)))) :
    s7 = k0_pay1 (iblk V pf hO c 1 t) := by
  obtain ⟨s, hs, e0, e1⟩ := prev_point t h0
  have q : pf 0 (ix1 (grid0.coords s 1)) = pf 0 (ix1 (grid0.coords t 1)) :=
    (congrArg (fun r : Fin 72 => pf 0 (ix1 r)) e1).trans (((congrArg (fun x : S72.Idx => pf 0 x) (ixT_eq _)).symm.trans he.symm).trans
      (congrArg (fun x : S72.Idx => pf 0 x) (ixT_eq _)))
  exact (hk s hs).trans (congrArg k0_pay1 (iblk_same V pf hO hle c s t e0 (congrArg BitVec.toNat q)))

set_option maxHeartbeats 1000000 in
/-- The body at any point. -/
theorem sound_body (hle : ∀ r, ex pf r ≤ 7) (c : Dev nD) (t : Fin (cfgM pf hO).N) :
    bodyPre V pf hO c t ⊢ wp frame (wpE (defs₀ (F := F)) Variants.none c none) Set.univ (bodyAt pf hO t) (fun _ => bodyPost V pf hO c t) := by
  unfold bodyPre bodyPost bodyAt
  simp only [before0, before1]
  rw [show (dats V pf hO 0 c).owesAt () t.succ = (dats V pf hO 0 c).owesAt () t.castSucc from rfl, after0, after1, after2]
  rw [show (dats V pf hO 0 c).Φ t.castSucc = Phi V pf hO c t.castSucc from rfl, show (dats V pf hO 0 c).Φ t.succ = Phi V pf hO c t.succ from rfl]
  unfold Phi
  rw [Fin.val_castSucc, Fin.val_succ]
  iintro ⟨⟨⟨%s7, %hk, H7⟩, Hr, HT0, HT1⟩, Ho, ⟨%d0, H0⟩, ⟨%d1, H1⟩, ⟨%d2, H2⟩⟩
  iapply (body_run c (grid0.coords t) _ _ _ _ _ _ _ _ (iblk V pf hO c 0 t) (iblk V pf hO c 1 t) s7 (pf 0) (pf 1)
    (kept_here V pf hO hle c t s7 hk) Set.univ _)
  isplitl [H0]; · iexact H0
  isplitl [H1]; · iexact H1
  isplitl [H2]; · iexists _; iexact H2
  isplitl [HT0]; · iexact HT0
  isplitl [HT1]; · iexact HT1
  isplitl [H7]; · iexact H7
  iintro ⟨H0, H1, H2, HT0, HT1, H7⟩
  isplitl [H7 Hr HT0 HT1]
  · isplitl [H7]
    · iexists _
      isplitr
      · ipureintro
        intro s hs
        obtain rfl : s = t := Fin.ext (Nat.succ_injective hs)
        exact rfl
      iexact H7
    isplitl [Hr]; · iexact Hr
    isplitl [HT0]; · iexact HT0
    iexact HT1
  isplitl [Ho]; · iexact Ho
  isplitl [H0]; · iexact H0
  isplitl [H1]; · iexact H1
  iexact H2

/-- The body table's row is the body at the point. -/
theorem defs₀_row (t : Fin (cfgM pf hO).N) :
    defs₀ (F := F) .tc (cfgM pf hO).body ((cfgM pf hO).bodyArgs t ((cfgM pf hO).slots t)) = bodyAt pf hO t := by
  unfold defs₀; rw [Defs.onTc_tc]

/-- The body stores the output's block at every point. -/
theorem idle2 (i : grid0.Coords) : idle0 pf 2 i = false := by
  show (!(k0_cond2 i (pf.atD 1 ![0]) == 1#1) && !(k0_cond3 i (pf.atD 1 ![0]) == 1#1)) = false
  have := cond3_iff i (pf.atD 1 ![0])
  by_cases h : k0_cond2 i (pf.atD 1 ![0]) = 1#1
  · rw [h]; rfl
  · rw [this.2 h]; simp

theorem idle_none (w : Fin (cfgM pf hO).W) (t : Fin (cfgM pf hO).N) : (cfgM pf hO).idle w ((cfgM pf hO).grid.coords t) = false :=
  match w with
  | ⟨0, _⟩ => rfl
  | ⟨1, _⟩ => rfl
  | ⟨2, _⟩ => idle2 pf _

theorem body_obligation (hle : ∀ r, ex pf r ≤ 7) (c : Dev nD) : BodyObligation (dats (F := F) V pf hO 0 c) (defs₀ (F := F)) Variants.none () Set.univ :=
  Live.obligation_of _ _ _ _ _ (idle_none pf hO) fun t => by
    rw [bigSep_W0, bigSep_W0, defs₀_row pf hO]
    exact triple_restated (sound_body V pf hO hle c t) rfl .rfl fun _ => .rfl

/-! ## The run -/

theorem scr_in (c : Dev nD) (f : Vec F S5632x512 .bf16) :
    (((c : Thread nD τ).loc cc0_scratch0 ↦{fullShare} f : sProp 𝕄)) ⊢ owns (c : Thread nD τ) (Memref.whole cc0_scratch0) fullShare f := by rw [owns_whole]
theorem scr_out (c : Dev nD) (f : Vec F S5632x512 .bf16) :
    owns (c : Thread nD τ) (Memref.whole cc0_scratch0) fullShare f ⊢ (((c : Thread nD τ).loc cc0_scratch0 ↦{fullShare} f : sProp 𝕄)) := by rw [owns_whole]

theorem hin (c : Dev nD) : iprop(Pipeline.ΦA spec0 c ∗ Pipeline.ΦT pre0 pf c) ⊢ (dats V pf hO 0 c).Φ 0 := by
  rw [PhiT_eq, show (dats V pf hO 0 c).Φ 0 = Phi V pf hO c 0 from rfl]
  unfold Pipeline.ΦA Phi
  rw [scopedRest0_eq]
  iintro ⟨⟨⟨%f7, H7⟩, Hr⟩, HT0, HT1⟩
  isplitl [H7]
  · iexists f7
    isplitr
    · ipureintro; intro s hs; exact absurd hs (Nat.succ_ne_zero _)
    iapply (scr_in c f7); iexact H7
  isplitl [Hr]; · iexact Hr
  isplitl [HT0]; · iexact HT0
  iexact HT1

theorem hout (c : Dev nD) : (dats V pf hO 0 c).Φ (Fin.last (cfgM pf hO).N) ⊢ Pipeline.ΦA spec0 c := by
  rw [show (dats V pf hO 0 c).Φ (Fin.last (cfgM pf hO).N) = Phi V pf hO c (Fin.last (cfgM pf hO).N) from rfl]
  unfold Pipeline.ΦA Phi
  rw [scopedRest0_eq]
  iintro ⟨⟨%s7, -, H7⟩, Hr, -, -⟩
  isplitl [H7]
  · iexists s7; iapply (scr_out c s7); iexact H7
  iexact Hr

end Cert.Kernel2Ideal.Down
end
-- ==== Proof.Down.Host.lean ====
module

public import proofs.«01_k».proof.Proof.Gen.Kernel2Ideal.Launch
public import proofs.«01_k».proof.Proof.PlanDefs
public import Idealize.ShloMosaic.Lib.Pipeline.FrameBody

@[expose] public section

set_option maxRecDepth 16384

noncomputable section

namespace Cert.Kernel2Ideal.Down

open Cert.Kernel2Ideal.Gen
open Idealize.ShloMosaic Idealize.ShloMosaic.TcCoe Idealize.SL.Sem Idealize.ShloMosaic.StableHlo

variable {F : FTy → Type} [FloatOps F]

variable (m : (ℓ : Loc nD τ sig) → Buf (Elt F) ℓ)

/-- The host operations before the call, stretch by stretch. -/
abbrev pre : List (List (HloOp τ sig (Elt F))) :=
  [hostOps0, hostOps0_1, hostOps0_2, hostOps0_3, hostOps0_4, hostOps0_5, hostOps0_6, hostOps0_7]

/-- A core's buffers when the call is reached: what the host operations leave of the launch contents. -/
def Vd (c : Dev nD) : Valuation τ sig (Elt F) := after pre.flatten (fun b => m (c, b))

/-- The chosen experts at launch. -/
abbrev topIdx (c : Dev nD) : IVec S16384x2 32 := m (c, Proc.devRef .tc main_arg0)

set_option maxHeartbeats 4000000 in
/-- When the call is reached the first table holds the tiles' experts. -/
theorem Vd_te (c : Dev nD) : Vd m c (Proc.devRef .tc main_v30) = Plan.te (Plan.ends (topIdx m c)) := by
  unfold Vd
  simp only [pre, List.flatten_cons, List.flatten_nil, List.append_nil, after_append]
  simp only [hostOps0, hostOps0_1, hostOps0_2, hostOps0_3, hostOps0_4, hostOps0_5, hostOps0_6, hostOps0_7, TRef.binary, TRef.nullary, TRef.ternary, TRef.unary, TRef.toBuf, TRef.ofBuf, cast_eq]
  after_results_simp
  rfl

set_option maxHeartbeats 4000000 in
/-- When the call is reached the second table holds the number of used tiles. -/
theorem Vd_nu (c : Dev nD) : Vd m c (Proc.devRef .tc main_v32) = Plan.nu (Plan.ends (topIdx m c)) := by
  unfold Vd
  simp only [pre, List.flatten_cons, List.flatten_nil, List.append_nil, after_append]
  simp only [hostOps0, hostOps0_1, hostOps0_2, hostOps0_3, hostOps0_4, hostOps0_5, hostOps0_6, hostOps0_7, TRef.binary, TRef.nullary, TRef.ternary, TRef.unary, TRef.toBuf, TRef.ofBuf, cast_eq]
  after_results_simp
  rfl

set_option maxHeartbeats 4000000 in
/-- The host operations write none of the arguments and not the result. -/
theorem Vd_args (c : Dev nD) : Vd m c (Proc.devRef .tc main_arg0) = m (c, Proc.devRef .tc main_arg0)
    ∧ Vd m c (Proc.devRef .tc main_arg1) = m (c, Proc.devRef .tc main_arg1)
    ∧ Vd m c (Proc.devRef .tc main_arg2) = m (c, Proc.devRef .tc main_arg2) := by
  unfold Vd
  simp only [pre, List.flatten_cons, List.flatten_nil, List.append_nil, after_append]
  simp only [hostOps0, hostOps0_1, hostOps0_2, hostOps0_3, hostOps0_4, hostOps0_5, hostOps0_6, hostOps0_7, TRef.binary, TRef.nullary, TRef.ternary, TRef.unary, TRef.toBuf, TRef.ofBuf, cast_eq]
  refine ⟨?_, ?_, ?_⟩ <;> after_results_simp

end Cert.Kernel2Ideal.Down
end
-- ==== Proof.Down.Run.lean ====
module

public import proofs.«01_k».proof.Proof.Down.Pipe
public import proofs.«01_k».proof.Proof.Down.Host
public import proofs.«01_k».proof.Proof.Plan
public import Idealize.ShloMosaic.Lib.Pipeline.Value
public import Idealize.ShloMosaic.Lib.Claim

@[expose] public section

set_option maxRecDepth 16384

noncomputable section

namespace Cert.Kernel2Ideal.Down

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 eq_ix1)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers and the tables when the call is reached -/

/-- Core `c`'s buffers when the call is reached. -/
def V (c : Dev nD) (b : Ref sig .tc) : Buf (Elt F) ((c : Thread nD τ).loc b) := Vd m c (Proc.devRef .tc b)

set_option maxHeartbeats 1600000 in
/-- The host operations take the launch memory to `V`. -/
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main pre
    ⟨hostOps0_sub, hostOps0_1_sub, hostOps0_2_sub, hostOps0_3_sub, hostOps0_4_sub, hostOps0_5_sub, hostOps0_6_sub, hostOps0_7_sub⟩
    (by refine ⟨?_, ?_, ?_, ?_, ?_, ?_, ?_, ?_⟩ <;> (repeat' apply And.intro) <;> first | rfl | trivial)
    (fun c => (main_chain c).trans rfl)

/-- The tables' contents when the call is reached. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The tiles' experts and the number of used tiles. -/
abbrev tes : IVec S72 32 := tbl m 0
abbrev nus : IVec S1 32 := tbl m 1

theorem tes_eq : tes m = Plan.te (Plan.ends (topIdx m 0)) := Vd_te m 0
theorem nus_eq : nus m = Plan.nu (Plan.ends (topIdx m 0)) := Vd_nu m 0

/-- Every tile's expert is one of the eight. -/
theorem ex_le (r : Fin 72) : ex (tbl m) r ≤ 7 := by
  show (tes m (ix1 r)).toNat ≤ 7
  rw [tes_eq]; exact Plan.te_le _ r

/-- The side condition on the tables holds whatever the memory. -/
theorem ok : ok0 (F := F) (tbl m) := ok_of (tbl m) (ex_le m)

/-- The tables as admissible contents. -/
abbrev adm : (pcfg0 (F := F)).Adm := ⟨tbl m, ok m⟩

set_option backward.isDefEq.respectTransparency.types false in
/-- The launch: every fair execution terminates, the arrays at what the write-backs leave and the counters at zero. -/
theorem run_main_quiescent : θ_run defs (onTc (τ := τ) (main (F := F))) (s₀ m ρ)
    (fun r => Pipeline.FramePost (Pipeline.pin pcfgs fun _ => adm m) (dats (V m) (tbl m) (ok m)) 0 (V m) r ∧ r.2.sem = fun _ => 0) :=
  Pipeline.θ_run_frameP_track (Q' := _) pcfgs (fun _ => adm m) (dats (V m) (tbl m) (ok m)) (0 : Fin 1) launch0 defs₀ Variants.none m ρ main
    (hbody := fun c => (body_obligation (V m) (tbl m) (ok m) (ex_le m) c).loose) (hshare := fun c => (dats (V m) (tbl m) (ok m) 0 c).share_full fun _ => rfl)
    (howed := fun _ _ => rfl) (V := V m) (hmain := hmain m) (hA := A_eq (V m) (tbl m) (ok m)) (hpf := V_pre m) (hin := hin (V m) (tbl m) (ok m)) (hout := hout (V m) (tbl m) (ok m))

/-- The run at the arguments and the result: the arguments end unchanged, the result at what the write-backs leave, the
    counters at zero. -/
theorem run_main : θ_run defs (onTc (τ := τ) (main (F := F))) ⟨m, fun _ => 0, ρ⟩ (fun r => (∀ c : Dev nD,
      r.2.mem ((c.tc : Thread nD τ).loc main_v33) = (dats (V m) (tbl m) (ok m) 0 c).arrAt 2 (cfgM (tbl m) (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c).1 2,
      ((h.1 c).2 main_arg0 (by decide : main_arg0 ∈ Pipeline.restRefs sig spec0)).trans (Vd_args m c).1,
      ((h.1 c).1 0).trans (((dats (V m) (tbl m) (ok m) 0 c).arrAt_in 0 rfl _).trans ((A_eq (V m) (tbl m) (ok m) c 0).trans (Vd_args m c).2.1)),
      ((h.1 c).1 1).trans (((dats (V m) (tbl m) (ok m) 0 c).arrAt_in 1 rfl _).trans ((A_eq (V m) (tbl m) (ok m) c 1).trans (Vd_args m c).2.2))⟩, h.2⟩)
    (run_main_quiescent m ρ)

end Cert.Kernel2Ideal.Down
end
-- ==== Proof.Down.Ref.lean ====
module

public import proofs.«01_k».proof.Proof.Plan
public import proofs.«01_k».proof.Proof.GateUp.Ref
public import proofs.«01_k».proof.Proof.Gen.Reference2Ideal.Run
public import Idealize.ShloMosaic.Lib.Pointwise
public import Idealize.ShloMosaic.Lib.IdealHost

@[expose] public section

set_option maxRecDepth 16384

noncomputable section

/-! The second reference's result read at one row and column: the row's product with its expert's weights, or zero. -/

namespace Cert.DownRef

open Idealize.ShloMosaic Idealize.ShloMosaic.TcCoe Idealize.ShloMosaic.StableHlo
open Cert.Reference2Ideal Cert.Reference2Ideal.Gen Cert.Reference2Ideal.Value
open Cert.GateUpRef (andi_one cmpi_eq_one)

/-- Row `n` of the rows times column `f` of expert `e`'s second weight. -/
def dotAt (x : FVec Ideal S36864x5632 .bf16) (w : FVec Ideal S2x8x5632x2048 .f32) (e : Fin 8) (n : Fin 36864) (f : Fin 2048) : EReal :=
  ∑ k : Fin 5632, x (ix2 n k) * w (ix4 (0 : Fin 2) e k f)

/-- One expert's step of the reference's chain: the rows times the expert's weights where the row is the expert's, the
    earlier steps' values elsewhere. -/
def step (e : ℕ) (h : S2x8x5632x2048.Slices ![0, e, 0, 0] S1x1x5632x2048) (us : IVec S36864 1) (rp : IVec S36864 32)
    (x : FVec Ideal S36864x5632 .bf16) (w : FVec Ideal S2x8x5632x2048 .f32) (rest : FVec Ideal S36864x2048 .f32) : FVec Ideal S36864x2048 .f32 :=
  select (broadcastInDim S36864x2048 ![0, 1] bcast_S36864x1_S36864x2048_0_1 (broadcastInDim S36864x1 ![0] bcast_S36864_S36864x1_0
      (andi us (cmpi .eq rp (broadcastInDim S36864 ![] bcast_S_S36864 (constantI S_ 32 (BitVec.ofNat 32 e)))))))
    (Host.dotGeneral dot_S36864x5632_S5632x2048_S36864x2048_1_0_0_1_n_n none (extf .f32 x bitsLt_bf16_f32)
      (shapeCast _ (extractStridedSlice S1x1x5632x2048 ![0, e, 0, 0] w h) shapeCasts_S1x1x5632x2048_S5632x2048)) rest

/-- A step read at one element. -/
theorem step_apply (e : Fin 8) (h : S2x8x5632x2048.Slices ![0, e.val, 0, 0] S1x1x5632x2048) (us : IVec S36864 1) (rp : IVec S36864 32)
    (x : FVec Ideal S36864x5632 .bf16) (w : FVec Ideal S2x8x5632x2048 .f32) (rest : FVec Ideal S36864x2048 .f32) (n : Fin 36864) (f : Fin 2048) :
    step e.val h us rp x w rest (ix2 n f)
      = if us (ix1 n) = 1#1 ∧ rp (ix1 n) = BitVec.ofNat 32 e.val then dotAt x w e n f else rest (ix2 n f) := by
  pointwise [step, dotAt]
  have hc : IntOp.andi (us (ix1 n)) (IntOp.cmpi .eq (rp (ix1 n)) (BitVec.ofNat 32 e.val)) = 1#1 ↔ us (ix1 n) = 1#1 ∧ rp (ix1 n) = BitVec.ofNat 32 e.val := by
    rw [andi_one, cmpi_eq_one]
  unfold Scalar.select
  by_cases hp : us (ix1 n) = 1#1 ∧ rp (ix1 n) = BitVec.ofNat 32 e.val
  · exact (if_pos (hc.mpr hp)).trans (if_pos hp).symm
  · exact (if_neg (fun k => hp (hc.mp k))).trans (if_neg hp).symm

/-- A step read at one element, its expert given by number. -/
theorem step_at (e : ℕ) (he : e < 8) (h : S2x8x5632x2048.Slices ![0, e, 0, 0] S1x1x5632x2048) (us : IVec S36864 1) (rp : IVec S36864 32)
    (x : FVec Ideal S36864x5632 .bf16) (w : FVec Ideal S2x8x5632x2048 .f32) (rest : FVec Ideal S36864x2048 .f32) (n : Fin 36864) (f : Fin 2048) :
    step e h us rp x w rest (ix2 n f)
      = if us (ix1 n) = 1#1 ∧ rp (ix1 n) = BitVec.ofNat 32 e then dotAt x w ⟨e, he⟩ n f else rest (ix2 n f) :=
  step_apply ⟨e, he⟩ h us rp x w rest n f

/-- The eight steps, from zeros. -/
def chain (us : IVec S36864 1) (rp : IVec S36864 32) (x : FVec Ideal S36864x5632 .bf16) (w : FVec Ideal S2x8x5632x2048 .f32) :
    FVec Ideal S36864x2048 .f32 :=
  step 7 slices_S2x8x5632x2048_S1x1x5632x2048_0_7_0_0 us rp x w (step 6 slices_S2x8x5632x2048_S1x1x5632x2048_0_6_0_0 us rp x w (step 5 slices_S2x8x5632x2048_S1x1x5632x2048_0_5_0_0 us rp x w (step 4 slices_S2x8x5632x2048_S1x1x5632x2048_0_4_0_0 us rp x w (step 3 slices_S2x8x5632x2048_S1x1x5632x2048_0_3_0_0 us rp x w (step 2 slices_S2x8x5632x2048_S1x1x5632x2048_0_2_0_0 us rp x w (step 1 slices_S2x8x5632x2048_S1x1x5632x2048_0_1_0_0 us rp x w (step 0 slices_S2x8x5632x2048_S1x1x5632x2048_0_0_0_0 us rp x w (broadcastInDim S36864x2048 ![] bcast_S_S36864x2048 (constant S_ .f32 0x00000000#32)))))))))

/-- The chain at one element, for a row whose expert is `e` if it is some expert's: the row's product with the expert's
    weight column; zero for a row that is no expert's. -/
theorem chain_apply (us : IVec S36864 1) (rp : IVec S36864 32) (x : FVec Ideal S36864x5632 .bf16) (w : FVec Ideal S2x8x5632x2048 .f32)
    (n : Fin 36864) (f : Fin 2048) (e : Fin 8) (he : us (ix1 n) = 1#1 → rp (ix1 n) = BitVec.ofNat 32 e.val) :
    chain us rp x w (ix2 n f) = if us (ix1 n) = 1#1 then dotAt x w e n f else 0 := by
  unfold chain
  rw [step_at 7 (by decide), step_at 6 (by decide), step_at 5 (by decide), step_at 4 (by decide), step_at 3 (by decide), step_at 2 (by decide), step_at 1 (by decide), step_at 0 (by decide)]
  generalize us (ix1 n) = u at he ⊢
  generalize rp (ix1 n) = r at he ⊢
  by_cases h : u = 1#1
  · rw [he h]
    fin_cases e <;> simp [h]
  · simp only [h, false_and, if_false]
    pointwise

/-- The chosen experts, the rows and the weights among the second reference's arguments. -/
abbrev argI (m : (ℓ : Loc nD τ sig) → Buf (Elt Ideal) ℓ) (c : Dev nD) : IVec S16384x2 32 := m ((c.tc : Thread nD τ).loc main_arg0)
abbrev argX (m : (ℓ : Loc nD τ sig) → Buf (Elt Ideal) ℓ) (c : Dev nD) : FVec Ideal S36864x5632 .bf16 := m ((c.tc : Thread nD τ).loc main_arg1)
abbrev argW (m : (ℓ : Loc nD τ sig) → Buf (Elt Ideal) ℓ) (c : Dev nD) : FVec Ideal S2x8x5632x2048 .f32 := m ((c.tc : Thread nD τ).loc main_arg2)

/-- The second reference's result is the chain at the rows' experts, with a middle axis of one. -/
theorem result_eq (m : (ℓ : Loc nD τ sig) → Buf (Elt Ideal) ℓ) (c : Dev nD) :
    res_main_v93 m c = broadcastInDim S36864x1x2048 ![0, 2] bcast_S36864x2048_S36864x1x2048_0_2
      (chain (Plan.used (Plan.refEnds (argI m c))) (Plan.rowPast (Plan.refEnds (argI m c))) (argX m c) (argW m c)) := rfl

/-- The second reference's result at one element. -/
theorem result_apply (m : (ℓ : Loc nD τ sig) → Buf (Elt Ideal) ℓ) (c : Dev nD) (n : Fin 36864) (f : Fin 2048) (e : Fin 8)
    (he : Plan.used (Plan.refEnds (argI m c)) (ix1 n) = 1#1 → Plan.rowPast (Plan.refEnds (argI m c)) (ix1 n) = BitVec.ofNat 32 e.val) :
    (res_main_v93 m c : FVec Ideal S36864x1x2048 .f32) (ix3 n (0 : Fin 1) f)
      = if Plan.used (Plan.refEnds (argI m c)) (ix1 n) = 1#1 then dotAt (argX m c) (argW m c) e n f else 0 := by
  rw [result_eq]
  refine Eq.trans ?_ (chain_apply _ _ _ _ n f e he)
  pointwise

end Cert.DownRef

end
-- ==== Proof.Down.Value.lean ====
module

public import proofs.«01_k».proof.Proof.Down.Run
public import proofs.«01_k».proof.Proof.Down.Ref
public import Idealize.ShloMosaic.Lib.Pipeline.Covers

@[expose] public section

set_option maxRecDepth 16384

noncomputable section

/-! What the second kernel's result array holds at `Ideal`, and that the second reference's holds the same. -/

namespace Cert.Kernel2Ideal.Down

open Cert.Kernel2Ideal.Gen
open Idealize.ShloMosaic Idealize.ShloMosaic.TcCoe Idealize.ShloMosaic.StableHlo
open Idealize.SL.Sem
open Idealize.ShloMosaic.Pipeline (Dat Cfg Window)
open Cert.DownRef (dotAt)

/-- The product block of a point, from its two input blocks: the rows' products with the weight columns. -/
theorem pay_apply (x0 : FVec Ideal S512x5632 .bf16) (x1 : FVec Ideal S1x1x5632x512 .f32) (p q : Fin 512) :
    (k0_pay2 (F := Ideal) x0 (k0_pay1 (F := Ideal) x1) : FVec Ideal S512x1x512 .f32) (ix3 p (0 : Fin 1) q)
      = ∑ k : Fin 5632, x0 (ix2 p k) * x1 (ix4 (0 : Fin 1) (0 : Fin 1) k q) := by
  pointwise [k0_pay2, k0_pay1]

/-- The block that a point beyond the used tiles stores. -/
theorem pay3_apply (p q : Fin 512) : (k0_pay3 : FVec Ideal S512x1x512 .f32) (ix3 p (0 : Fin 1) q) = 0 := by
  pointwise [k0_pay3]

/-- The body computes the product exactly on the used tiles. -/
theorem cond2_iff (i : grid0.Coords) (nu : BitVec 32) :
    k0_cond2 i nu = 1#1 ↔ IntOp.cmpi .slt (BitVec.ofNat 32 (i 1).val) nu = 1#1 := by
  unfold k0_cond2
  show IntOp.cmpi .ne ((IntOp.cmpi .slt _ _).setWidth 32) 0#32 = 1#1 ↔ _
  rw [WordCmp.cmpi_slt_eq]
  have key : ∀ p : Bool, IntOp.cmpi .ne ((BitVec.ofBool p).setWidth 32) 0#32 = 1#1 ↔ BitVec.ofBool p = 1#1 := by decide
  exact key _

/-- The products of all rows with their experts' weights, from the rows, the weights, the tiles' experts and the number of used tiles. -/
def prods (x : FVec Ideal S36864x5632 .bf16) (w : FVec Ideal S2x8x5632x2048 .f32) (e : Fin 72 → Fin 8) (nu : BitVec 32) :
    FVec Ideal S36864x1x2048 .f32 := fun i =>
  if IntOp.cmpi .slt (BitVec.ofNat 32 (Plan.tileOf (i 0)).val) nu = 1#1 then dotAt x w (e (Plan.tileOf (i 0))) (i 0) (i 2) else 0

section

variable (V : (c : Dev nD) → (b : Ref sig .tc) → Buf (Elt Ideal) ((c : Thread nD τ).loc b)) (pf : pre0.Contents (Elt Ideal))
variable (hO : ok0 (F := Ideal) pf)

/-- A point's block is its block of the products. -/
theorem outAt_apply (hle : ∀ r, ex pf r ≤ 7) (c : Dev nD) (t : Fin (cfgM pf hO).N) (y : S512x1x512.Idx) (i : S36864x1x2048.Idx)
    (h0 : (i 0).val = (grid0.coords t 1).val * 512 + (y 0).val) (h2 : (i 2).val = (grid0.coords t 0).val * 512 + (y 2).val) :
    outAt V pf hO c t y = prods (V c main_arg1) (V c main_arg2) (fun r => ⟨ex pf r, Nat.lt_succ_of_le (hle r)⟩) (pf 1 ix0) i := by
  have y0 : (y 0).val < 512 := (y 0).isLt
  have y1 : (y 1).val < 1 := (y 1).isLt
  have y2 : (y 2).val < 512 := (y 2).isLt
  have ht : Plan.tileOf (i 0) = grid0.coords t 1 := Fin.ext (by show (i 0).val / 512 = _; omega)
  have hy : y = ix3 (⟨(y 0).val, y0⟩ : Fin 512) (0 : Fin 1) (⟨(y 2).val, y2⟩ : Fin 512) := by
    funext a
    match a with
    | 0 => rfl
    | 1 => exact Fin.ext (Nat.lt_one_iff.mp y1)
    | 2 => rfl
  unfold outAt outv prods
  rw [ht]
  by_cases hc : IntOp.cmpi .slt (BitVec.ofNat 32 (grid0.coords t 1).val) (pf 1 ix0) = 1#1
  · rw [if_pos ((cond2_iff _ _).mpr hc), if_pos hc, hy]
    refine (pay_apply (iblk V pf hO c 0 t) (iblk V pf hO c 1 t) _ _).trans ?_
    unfold dotAt
    refine Finset.sum_congr rfl fun k _ => ?_
    exact congrArg₂ (· * ·) (iblk0_apply V pf hO c t _ (ix2 (i 0) k) h0 rfl)
      (iblk1_apply V pf hO c t _ (ix4 (0 : Fin 2) (⟨ex pf (grid0.coords t 1), Nat.lt_succ_of_le (hle _)⟩ : Fin 8) k (i 2)) rfl rfl rfl h2)
  · rw [if_neg (fun h => hc ((cond2_iff _ _).mp h)), if_neg hc, hy, pay3_apply]

/-- What a point writes back is its block of the products. -/
theorem flushed_eq (hle : ∀ r, ex pf r ≤ 7) (c : Dev nD) (t : Fin (cfgM pf hO).N) :
    (dats V pf hO 0 c).flushed 2 t = (((cfgM pf hO).win 2).blk t).view.read (Elt Ideal)
      (prods (V c main_arg1) (V c main_arg2) (fun r => ⟨ex pf r, Nat.lt_succ_of_le (hle r)⟩) (pf 1 ix0)) := by
  show ((cfgM pf hO).win 2).cut (grid0.coords t) ((dats V pf hO 0 c).after 2 t) = _
  rw [after2]
  funext (y : S512x1x512.Idx)
  refine outAt_apply V pf hO hle c t y _ ?_ ?_
  · refine (Window.rect_emb_val ((cfgM pf hO).win 2) t y (0 : Fin 3)).trans ?_
    show cc0_transform_2 (grid0.coords t) 0 * 512 + (y 0).val = _
    rw [t2_eq]; rfl
  · refine (Window.rect_emb_val ((cfgM pf hO).win 2) t y (2 : Fin 3)).trans ?_
    show cc0_transform_2 (grid0.coords t) 2 * 512 + (y 2).val = _
    rw [t2_eq]; rfl

/-- Every element of the result is in the block of a point that writes back. -/
theorem cover (i : S36864x1x2048.Idx) :
    ∃ t : Fin (cfgM pf hO).N, ((cfgM pf hO).win 2).flush t = true ∧ i ∈ (((cfgM pf hO).win 2).blk t).view.set := by
  have i0 : (i 0).val < 36864 := (i 0).isLt
  have i1 : (i 1).val < 1 := (i 1).isLt
  have i2 : (i 2).val < 2048 := (i 2).isLt
  obtain ⟨s, hs⟩ := Pipeline.Grid.coords_surjective grid0
    (fun a => match a with | 0 => (⟨(i 2).val / 512, by show _ < 4; omega⟩ : Fin 4) | 1 => (⟨(i 0).val / 512, by show _ < 72; omega⟩ : Fin 72))
  obtain ⟨t, -, hf, hix⟩ := Window.exists_flush_same_index ((cfgM pf hO).win 2) rfl s
  refine ⟨t, hf, ?_⟩
  show i ∈ ((View.whole main_v33).slice (((cfgM pf hO).win 2).rect t)).set
  erw [View.set_slice_whole]
  refine (Window.mem_rect_iff ((cfgM pf hO).win 2) t i (by rfl)).mpr fun (a : Fin 3) => ?_
  rw [hix]
  have e : ((cfgM pf hO).win 2).index s = ![(i 0).val / 512, 0, (i 2).val / 512] := by
    show cc0_transform_2 (grid0.coords s) = _
    rw [t2_eq, hs]
  rw [e]
  match a with
  | 0 => show (i 0).val / 512 * 512 ≤ (i 0).val ∧ (i 0).val < (i 0).val / 512 * 512 + 512; omega
  | 1 => show 0 * 1 ≤ (i 1).val ∧ (i 1).val < 0 * 1 + 1; omega
  | 2 => show (i 2).val / 512 * 512 ≤ (i 2).val ∧ (i 2).val < (i 2).val / 512 * 512 + 512; omega

/-- The result array after the run: the products. -/
theorem final (hle : ∀ r, ex pf r ≤ 7) (c : Dev nD) : (dats V pf hO 0 c).arrAt 2 (cfgM pf hO).N
    = prods (V c main_arg1) (V c main_arg2) (fun r => ⟨ex pf r, Nat.lt_succ_of_le (hle r)⟩) (pf 1 ix0) :=
  (dats V pf hO 0 c).arrAt_eq_of_cover 2 _ (fun t _ => flushed_eq V pf hO hle c t) (cover pf hO)

end

/-- The second reference's result is the products at the tile plan of its chosen experts. -/
theorem ref_eq (m' : (ℓ : Loc Reference2Ideal.nD Reference2Ideal.τ Reference2Ideal.sig) → Buf (Elt Ideal) ℓ) (c : Dev Reference2Ideal.nD) (E : Fin 72 → Fin 8)
    (hE : ∀ r, (E r).val = (Plan.te (Plan.ends (DownRef.argI m' c)) (ValueIdx.ix1 r)).toNat) :
    (Reference2Ideal.Value.res_main_v93 m' c : FVec Ideal S36864x1x2048 .f32)
      = prods (DownRef.argX m' c) (DownRef.argW m' c) E (Plan.nu (Plan.ends (DownRef.argI m' c)) (ValueIdx.ix1 (0 : Fin 1))) := by
  funext (i : S36864x1x2048.Idx)
  obtain ⟨n, f, rfl⟩ : ∃ (n : Fin 36864) (f : Fin 2048), i = ix3 n (0 : Fin 1) f :=
    ⟨i 0, i 2, funext fun a => match a with | 0 => rfl | 1 => Fin.ext (Nat.lt_one_iff.mp (i 1).isLt) | 2 => rfl⟩
  obtain ⟨d, hd⟩ : ∃ d, Plan.ends (DownRef.argI m' c) = Plan.endsOf d := ⟨_, rfl⟩
  rw [hd] at hE
  refine (DownRef.result_apply m' c n f (E (Plan.tileOf n)) (by
    rw [← Plan.ends_eq, ix1_eq_valueIdx, hd]
    intro h
    rw [Plan.rowPast_te _ _ h, hE, BitVec.ofNat_toNat, BitVec.setWidth_eq])).trans ?_
  rw [← Plan.ends_eq, ix1_eq_valueIdx, hd]
  show _ = if IntOp.cmpi .slt (BitVec.ofNat 32 (Plan.tileOf n).val) _ = 1#1 then dotAt _ _ (E (Plan.tileOf n)) n f else 0
  by_cases h : Plan.used (Plan.endsOf d) (ValueIdx.ix1 n) = 1#1
  · rw [if_pos h]; exact (if_pos ((Plan.used_tile d n).mp h)).symm
  · rw [if_neg h]; exact (if_neg (fun k => h ((Plan.used_tile d n).mpr k))).symm

/-- The kernel's result array holds the reference's result, when they are given the same arguments. -/
theorem arr_eq (m : (ℓ : Loc nD τ sig) → Buf (Elt Ideal) ℓ) (c : Dev nD) (m' : (ℓ : Loc Reference2Ideal.nD Reference2Ideal.τ Reference2Ideal.sig) → Buf (Elt Ideal) ℓ)
    (h0 : DownRef.argI m' c = topIdx m 0) (h1 : DownRef.argX m' c = m ((c.tc : Thread nD τ).loc main_arg1))
    (h2 : DownRef.argW m' c = m ((c.tc : Thread nD τ).loc main_arg2)) :
    (Reference2Ideal.Value.res_main_v93 m' c : FVec Ideal S36864x1x2048 .f32) = (dats (V m) (tbl m) (ok m) 0 c).arrAt 2 (cfgM (tbl m) (ok m)).N := by
  rw [final (V m) (tbl m) (ok m) (ex_le m) c,
    ref_eq m' c (fun r => ⟨ex (tbl m) r, Nat.lt_succ_of_le (ex_le m r)⟩) (fun r => by
      show (tes m (ValueIdx.ix1 r)).toNat = _
      rw [tes_eq, h0]), h1, h2, h0]
  have e1 : V m c main_arg1 = m ((c.tc : Thread nD τ).loc main_arg1) := (Vd_args m c).2.1
  have e2 : V m c main_arg2 = m ((c.tc : Thread nD τ).loc main_arg2) := (Vd_args m c).2.2
  have en : tbl m 1 ix0 = Plan.nu (Plan.ends (topIdx m 0)) (ValueIdx.ix1 (0 : Fin 1)) := by
    rw [← nus_eq]; exact congrArg (nus m) (funext fun a => match a with | 0 => rfl)
  rw [e1, e2, en]

end Cert.Kernel2Ideal.Down

end
-- ==== Proof.Down.Claims.lean ====
module

public import proofs.«01_k».proof.Defs
public import proofs.«01_k».proof.Proof.Down.Same
public import proofs.«01_k».proof.Proof.Down.Value
public import Idealize.ShloMosaic.Lib.Quiescent

@[expose] public section

set_option maxRecDepth 16384

noncomputable section

/-! The claims about the second kernel, from its run and its value. -/

namespace Cert.DownClaims

open Idealize.ShloMosaic Idealize.ShloMosaic.TcCoe Idealize.SL.Sem
open Cert.Kernel2Ideal.Down (run_main arr_eq)

/-- The kernel terminates, its arguments unchanged and its counters at zero: over extended reals, -/
theorem frame_ideal : Cert.quiescent_Kernel2Ideal := fun m ρ _ =>
  (θ_run Cert.Kernel2Ideal.defs _ _).mono (fun _ h => ⟨fun c => (h.1 c).2, h.2⟩) (run_main (F := Ideal) m ρ)

/-- and as launched: the two programs have one text. -/
theorem frame_kernel : Cert.quiescent_Kernel2 := fun m ρ _ =>
  DownSame.run_kernel _ _ ((θ_run Cert.Kernel2Ideal.defs _ _).mono (fun _ h => ⟨fun c => (h.1 c).2, h.2⟩) (run_main (F := Bits) m ρ))

/-- The reference terminates with its arguments unchanged. -/
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- The kernel's result is the reference's, element by element, on equal arguments. -/
theorem value : Cert.algebraic_Kernel2Ideal_Reference2Ideal := fun m ρ m' ρ' _ hag =>
  ⟨fun c => (Cert.Kernel2Ideal.Down.dats (Cert.Kernel2Ideal.Down.V m) (Cert.Kernel2Ideal.Down.tbl m) (Cert.Kernel2Ideal.Down.ok m) 0 c).arrAt 2
      (Cert.Kernel2Ideal.Down.cfgM (Cert.Kernel2Ideal.Down.tbl m) (Cert.Kernel2Ideal.Down.ok m)).N,
    (θ_run Cert.Kernel2Ideal.defs _ _).mono (fun _ h c => h.1 c) (run_main (F := Ideal) m ρ),
    (θ_run Cert.Reference2Ideal.defs _ _).mono (fun _ h c => ⟨(h c).1.trans
      (arr_eq m c m' (by obtain rfl : c = 0 := Subsingleton.elim _ _; exact (hag 0).1) (hag c).2.1 (hag c).2.2), (h c).2⟩)
      (Cert.Reference2Ideal.Value.run (F := Ideal) m' ρ')⟩

end Cert.DownClaims

end
-- ==== Proof.DenseUp.Ref.lean ====
module

public import proofs.«01_k».proof.Proof.GateUp.Ref
public import proofs.«01_k».proof.Proof.Gen.Reference3Ideal.Run

@[expose] public section

set_option maxRecDepth 16384

noncomputable section

/-! The third reference's result read at one row and column: the gated product. -/

namespace Cert.DenseUpRef

open Idealize.ShloMosaic Idealize.ShloMosaic.TcCoe Idealize.ShloMosaic.StableHlo
open Cert.Reference3Ideal Cert.Reference3Ideal.Gen
open Cert.GateUpRef (act act_eq)

/-- Row `n` of the activations times column `f` of the first layer's weights. -/
def dotAt (x : FVec Ideal S16384x2048 .bf16) (w : FVec Ideal S2x2048x11264 .f32) (n : Fin 16384) (f : Fin 11264) : EReal :=
  ∑ k : Fin 2048, x (ix2 n k) * w (ix3 (0 : Fin 2) k f)

/-- The gated products of all rows. -/
def gated (x : FVec Ideal S16384x2048 .bf16) (w : FVec Ideal S2x2048x11264 .f32) : FVec Ideal S16384x5632 .bf16 := fun i =>
  act (dotAt x w (i 0) ⟨(i 1).val, lt_trans (i 1).isLt (by decide)⟩) (dotAt x w (i 0) ⟨5632 + (i 1).val, Nat.add_lt_add_left (i 1).isLt 5632⟩)

/-- The products of all rows, as the reference computes them. -/
def prods (x : FVec Ideal S16384x2048 .bf16) (w : FVec Ideal S2x2048x11264 .f32) : FVec Ideal S16384x11264 .f32 :=
  Host.dotGeneral (F := Ideal) dot_S16384x2048_S2048x11264_S16384x11264_1_0_0_1_n_n none (extf .f32 x bitsLt_bf16_f32)
    (shapeCast _ (extractStridedSlice S1x2048x11264 ![0, 0, 0] w slices_S2x2048x11264_S1x2048x11264_0_0_0) shapeCasts_S1x2048x11264_S2048x11264)

/-- A product, read at one element. -/
theorem prods_apply (x : FVec Ideal S16384x2048 .bf16) (w : FVec Ideal S2x2048x11264 .f32) (n : Fin 16384) (f : Fin 11264) :
    prods x w (ix2 n f) = dotAt x w n f := by
  pointwise [prods, dotAt]

/-- The reference's result, of the products. -/
def gatedOf (H : FVec Ideal S16384x11264 .f32) : FVec Ideal S16384x5632 .bf16 :=
  truncf .bf16 (mulf (mulf (extractStridedSlice S16384x5632 ![0, 0] H slices_S16384x11264_S16384x5632_0_0)
    (Host.divf (broadcastInDim S16384x5632 ![] bcast_S_S16384x5632 (constant S_ .f32 0x3F800000#32))
      (addf (broadcastInDim S16384x5632 ![] bcast_S_S16384x5632 (constant S_ .f32 0x3F800000#32))
        (Host.exp (Host.negf (extractStridedSlice S16384x5632 ![0, 0] H slices_S16384x11264_S16384x5632_0_0))))))
    (extractStridedSlice S16384x5632 ![0, 5632] H slices_S16384x11264_S16384x5632_0_5632)) bitsLt_bf16_f32

/-- The reference's result, read at one element. -/
theorem gatedOf_apply (H : FVec Ideal S16384x11264 .f32) (n : Fin 16384) (f : Fin 5632) :
    gatedOf H (ix2 n f) = act (H (ix2 n ⟨f.val, by omega⟩)) (H (ix2 n ⟨5632 + f.val, by omega⟩)) := by
  pointwise [gatedOf]
  rw [act_eq]

/-- The reference computes the gated products. -/
theorem result_eq (x : FVec Ideal S16384x2048 .bf16) (w : FVec Ideal S2x2048x11264 .f32) : gatedOf (prods x w) = gated x w := by
  funext i
  obtain ⟨n, f, rfl⟩ : ∃ (n : Fin 16384) (f : Fin 5632), i = ix2 n f := ⟨i 0, i 1, funext fun a => match a with | 0 => rfl | 1 => rfl⟩
  exact (gatedOf_apply _ n f).trans (congrArg₂ act (prods_apply x w n _) (prods_apply x w n _))

end Cert.DenseUpRef

end
-- ==== Proof.DenseUp.Value.lean ====
module

public import proofs.«01_k».proof.Proof.Gen.Kernel3Ideal.Value
public import proofs.«01_k».proof.Proof.DenseUp.Ref
public import Idealize.ShloMosaic.Lib.Pipeline.ValueKit

@[expose] public section

set_option maxRecDepth 16384

noncomputable section

/-! What the dense gate and up call's result array holds at `Ideal`: the gated products. -/

namespace Cert.Kernel3Ideal.DenseUp

open Cert.Kernel3Ideal.Gen
open Idealize.ShloMosaic Idealize.ShloMosaic.TcCoe Idealize.ShloMosaic.StableHlo
open Idealize.SL.Sem
open Idealize.ShloMosaic.Pipeline (Dat Cfg Window)
open Cert.GateUpRef (act)
open Cert.DenseUpRef (dotAt gated)

/-- The product block of a point, from its three input blocks. -/
theorem pay_apply (x0 : FVec Ideal S2048x2048 .bf16) (x1 x2 : FVec Ideal S1x2048x512 .bf16) (p : Fin 2048) (q : Fin 512) :
    (k0_pay1 (F := Ideal) x0 x1 x2 : FVec Ideal S2048x512 .bf16) (ix2 p q)
      = act (∑ k : Fin 2048, x0 (ix2 p k) * x1 (ix3 (0 : Fin 1) k q)) (∑ k : Fin 2048, x0 (ix2 p k) * x2 (ix3 (0 : Fin 1) k q)) := by
  pointwise [k0_pay1, act]
  rw [zero_sub]

/-- The rows' block moves with the inner coordinate, -/
theorem t0_eq : ∀ t : Fin grid0.N, win0_0.index t = ![(grid0.coords t 1).val, 0] := by decide +kernel

/-- the weights' first column block with the outer one, -/
theorem t1_eq : ∀ t : Fin grid0.N, win0_1.index t = ![0, 0, (grid0.coords t 0).val] := by decide +kernel

/-- the second lies eleven blocks further, -/
theorem t2_eq : ∀ t : Fin grid0.N, win0_2.index t = ![0, 0, (grid0.coords t 0).val + 11] := by decide +kernel

/-- and the result's block moves with both. -/
theorem t3_eq : ∀ t : Fin grid0.N, win0_3.index t = ![(grid0.coords t 1).val, (grid0.coords t 0).val] := by decide +kernel

variable (m : (ℓ : Loc nD τ sig) → Buf (Elt Ideal) ℓ)

/-- The region finds the weights cast: over extended reals, as they were. -/
theorem V_main_v0 (c : Dev nD) : V m c main_v0 = (m ((c.tc : Thread nD τ).loc main_arg1) : FVec Ideal S2x2048x11264 .f32) := by
  show (truncf .bf16 (m ((c.tc : Thread nD τ).loc main_arg1) : FVec Ideal S2x2048x11264 .f32) bitsLt_bf16_f32 : FVec Ideal S2x2048x11264 .bf16) = _
  rfl

/-- The first window's block at a point: its rows of the activations. -/
theorem iblk0_apply (c : Dev nD) (t : Fin cfg0.N) (p k : Fin 2048) (n : Fin 16384) (h : n.val = (grid0.coords t 1).val * 2048 + p.val) :
    (iblk m c 0 t : FVec Ideal S2048x2048 .bf16) (ix2 p k) = (m ((c.tc : Thread nD τ).loc main_arg0) : FVec Ideal S16384x2048 .bf16) (ix2 n k) := by
  have hv : V m c main_arg0 = m ((c.tc : Thread nD τ).loc main_arg0) := V_main_arg0 m c
  show (V m c main_arg0 : FVec Ideal S16384x2048 .bf16) (((cfg0.win 0).blk t).view.emb (ix2 p k)) = _
  rw [hv]
  refine congrArg (m ((c.tc : Thread nD τ).loc main_arg0) : FVec Ideal S16384x2048 .bf16) (funext fun a => Fin.ext ?_)
  match a with
  | 0 => blk_simp; rw [t0_eq]; exact h.symm
  | 1 => blk_simp; rw [t0_eq]; exact (Nat.zero_mul _).symm ▸ Nat.zero_add _

/-- The second window's: its columns of the weights. -/
theorem iblk1_apply (c : Dev nD) (t : Fin cfg0.N) (k : Fin 2048) (q : Fin 512) (f : Fin 11264) (h : f.val = (grid0.coords t 0).val * 512 + q.val) :
    (iblk m c 1 t : FVec Ideal S1x2048x512 .bf16) (ix3 (0 : Fin 1) k q)
      = (m ((c.tc : Thread nD τ).loc main_arg1) : FVec Ideal S2x2048x11264 .f32) (ix3 (0 : Fin 2) k f) := by
  show (V m c main_v0 : FVec Ideal S2x2048x11264 .f32) (((cfg0.win 1).blk t).view.emb (ix3 (0 : Fin 1) k q)) = _
  rw [V_main_v0]
  refine congrArg (m ((c.tc : Thread nD τ).loc main_arg1) : FVec Ideal S2x2048x11264 .f32) (funext fun a => Fin.ext ?_)
  match a with
  | 0 => blk_simp; rw [t1_eq]; rfl
  | 1 => blk_simp; rw [t1_eq]; exact (Nat.zero_mul _).symm ▸ Nat.zero_add _
  | 2 => blk_simp; rw [t1_eq]; exact h.symm

/-- The third window's: the columns eleven blocks further. -/
theorem iblk2_apply (c : Dev nD) (t : Fin cfg0.N) (k : Fin 2048) (q : Fin 512) (f : Fin 11264) (h : f.val = ((grid0.coords t 0).val + 11) * 512 + q.val) :
    (iblk m c 2 t : FVec Ideal S1x2048x512 .bf16) (ix3 (0 : Fin 1) k q)
      = (m ((c.tc : Thread nD τ).loc main_arg1) : FVec Ideal S2x2048x11264 .f32) (ix3 (0 : Fin 2) k f) := by
  show (V m c main_v0 : FVec Ideal S2x2048x11264 .f32) (((cfg0.win 2).blk t).view.emb (ix3 (0 : Fin 1) k q)) = _
  rw [V_main_v0]
  refine congrArg (m ((c.tc : Thread nD τ).loc main_arg1) : FVec Ideal S2x2048x11264 .f32) (funext fun a => Fin.ext ?_)
  match a with
  | 0 => blk_simp; rw [t2_eq]; rfl
  | 1 => blk_simp; rw [t2_eq]; exact (Nat.zero_mul _).symm ▸ Nat.zero_add _
  | 2 => blk_simp; rw [t2_eq]; exact h.symm

/-- The result array after the run holds the gated products. -/
theorem final (c : Dev nD) : (dats m 0 c).arrAt 3 cfg0.N
    = gated (m ((c.tc : Thread nD τ).loc main_arg0)) (m ((c.tc : Thread nD τ).loc main_arg1)) := by
  refine (dats m 0 c).arrAt_eq_of_covers 3 _ (by decide +kernel) fun t hf y => ?_
  have e0 : ((((cfg0.win 3).blk t).view.emb y : S16384x5632.Idx) 0).val = (grid0.coords t 1).val * 2048 + (y 0).val := by
    blk_simp; rw [t3_eq]; rfl
  have e1 : ((((cfg0.win 3).blk t).view.emb y : S16384x5632.Idx) 1).val = (grid0.coords t 0).val * 512 + (y 1).val := by
    blk_simp; rw [t3_eq]; rfl
  generalize (((cfg0.win 3).blk t).view.emb y : S16384x5632.Idx) = i at e0 e1 ⊢
  blk_simp
  rw [after0_3]
  frame_out
  obtain ⟨p, q, rfl⟩ : ∃ (p : Fin 2048) (q : Fin 512), y = ix2 p q := ⟨y 0, y 1, funext fun a => match a with | 0 => rfl | 1 => rfl⟩
  refine (pay_apply _ _ _ p q).trans (congrArg₂ act (Finset.sum_congr rfl fun k _ => congrArg₂ (· * ·) (iblk0_apply m c t p k (i 0) e0) (iblk1_apply m c t k q _ e1))
    (Finset.sum_congr rfl fun k _ => congrArg₂ (· * ·) (iblk0_apply m c t p k (i 0) e0) (iblk2_apply m c t k q _ ?_)))
  show 5632 + (i 1).val = _
  rw [e1, Nat.add_mul]
  show _ = _ * 512 + 5632 + q.val
  have : ((ix2 p q : S2048x512.Idx) 1).val = q.val := rfl
  omega

end Cert.Kernel3Ideal.DenseUp

end
-- ==== Proof.DenseUp.Claims.lean ====
module

public import proofs.«01_k».proof.Defs
public import proofs.«01_k».proof.Proof.DenseUp.Value
public import proofs.«01_k».proof.Proof.Gen.Kernel3.Frame
public import Idealize.ShloMosaic.Lib.Quiescent

@[expose] public section

set_option maxRecDepth 16384

noncomputable section

/-! The claims about the third kernel, from its run and its value. -/

namespace Cert.DenseUpClaims

open Idealize.ShloMosaic Idealize.ShloMosaic.TcCoe Idealize.SL.Sem

/-- The kernel terminates, its arguments unchanged and its counters at zero: over extended reals, -/
theorem frame_ideal : Cert.quiescent_Kernel3Ideal := fun m ρ _ => Cert.Kernel3Ideal.Gen.frame (F := Ideal) m ρ

/-- and as launched. -/
theorem frame_kernel : Cert.quiescent_Kernel3 := fun m ρ _ => Cert.Kernel3.Gen.frame (F := Bits) m ρ

/-- The reference terminates with its arguments unchanged. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- The kernel's result is the reference's, element by element, on equal arguments. -/
theorem value : Cert.algebraic_Kernel3Ideal_Reference3Ideal := fun m ρ m' ρ' _ hag =>
  ⟨fun c => DenseUpRef.gated (m ((c.tc : Thread _ _).loc Cert.Kernel3Ideal.main_arg0)) (m ((c.tc : Thread _ _).loc Cert.Kernel3Ideal.main_arg1)),
    (θ_run Cert.Kernel3Ideal.defs _ _).mono (fun _ h c => ⟨(h c).1.trans (Cert.Kernel3Ideal.DenseUp.final m c), (h c).2⟩)
      (Cert.Kernel3Ideal.Value.run_blocks (F := Ideal) m ρ),
    (θ_run Cert.Reference3Ideal.defs _ _).mono (fun _ h c => ⟨(h c).1.trans ((DenseUpRef.result_eq _ _).trans
      (congrArg₂ DenseUpRef.gated (hag c).1 (hag c).2)), (h c).2⟩)
      (Cert.Reference3Ideal.Value.run (F := Ideal) m' ρ')⟩

end Cert.DenseUpClaims

end
-- ==== Proof.DenseDown.Ref.lean ====
module

public import proofs.«01_k».proof.Proof.Gen.Reference4Ideal.Run
public import Idealize.ShloMosaic.Lib.Pointwise
public import Idealize.ShloMosaic.Lib.IdealHost

@[expose] public section

set_option maxRecDepth 16384

noncomputable section

/-! The fourth reference's results read at one row and column: the row's layer norm. -/

namespace Cert.DenseDownRef

open Idealize.ShloMosaic Idealize.ShloMosaic.TcCoe Idealize.ShloMosaic.StableHlo
open Cert.Reference4Ideal Cert.Reference4Ideal.Gen Cert.Reference4Ideal.Value

/-- The mean of a row. -/
def mean (s : Fin 2048 → EReal) : EReal := Ideal.div (∑ f : Fin 2048, s f) (Scalar.ofBits (F := Ideal) .f32 0x45000000#32)

/-- The layer norm of a row at a column, from the row, the column's scale and its shift. -/
def layerNorm (s : Fin 2048 → EReal) (g b : EReal) (f : Fin 2048) : EReal :=
  (s f - mean s) * Ideal.rsqrt (mean (fun k => (s k - mean s) * (s k - mean s)) + Scalar.ofBits (F := Ideal) .f32 0x3727C5AC#32) * g + b

/-- A row of the residual, scaled, plus the row's products with the first layer's weights. -/
def row (x : FVec Ideal S16384x5632 .bf16) (w : FVec Ideal S2x5632x2048 .f32) (r : FVec Ideal S16384x2048 .f32) (n : Fin 16384) (f : Fin 2048) : EReal :=
  Scalar.ofBits (F := Ideal) .f32 0x3FD744FD#32 * r (ix2 n f) + ∑ k : Fin 5632, x (ix2 n k) * w (ix3 (0 : Fin 2) k f)

/-- The layer norms of all rows. -/
def normed (x : FVec Ideal S16384x5632 .bf16) (w : FVec Ideal S2x5632x2048 .f32) (r : FVec Ideal S16384x2048 .f32)
    (g b : FVec Ideal S4x2048 .f32) : S16384x2048.Idx → EReal := fun i =>
  layerNorm (row x w r (i 0)) (g (ix2 (0 : Fin 4) (i 1))) (b (ix2 (0 : Fin 4) (i 1))) (i 1)

variable (m : (ℓ : Loc nD τ sig) → Buf (Elt Ideal) ℓ) (c : Dev nD)

/-- The reference's first result, read at one element. -/
theorem result_apply (n : Fin 16384) (f : Fin 2048) :
    (res_main_v34 m c : FVec Ideal S16384x2048 .f32) (ix2 n f)
      = normed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (ix2 n f) := by
  pointwise [res_main_v34, normed, layerNorm, mean, row]

/-- The first result is the layer norms, -/
theorem result_eq : (res_main_v34 m c : FVec Ideal S16384x2048 .f32)
      = normed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  funext i
  obtain ⟨n, f, rfl⟩ : ∃ (n : Fin 16384) (f : Fin 2048), i = ix2 n f := ⟨i 0, i 1, funext fun a => match a with | 0 => rfl | 1 => rfl⟩
  exact result_apply m c n f

/-- and the second is the first, cast. -/
theorem result_cast : (res_main_v35 m c : FVec Ideal S16384x2048 .bf16) = (res_main_v34 m c : FVec Ideal S16384x2048 .f32) := rfl

end Cert.DenseDownRef

end
-- ==== Proof.DenseDown.Value.lean ====
module

public import proofs.«01_k».proof.Proof.Gen.Kernel4Ideal.Value
public import proofs.«01_k».proof.Proof.DenseDown.Ref
public import Idealize.ShloMosaic.Lib.Pipeline.ValueKit

@[expose] public section

set_option maxRecDepth 16384

noncomputable section

/-! What the product and norm call's result arrays hold at `Ideal`: the rows' layer norms. -/

namespace Cert.Kernel4Ideal.DenseDown

open Cert.Kernel4Ideal.Gen
open Idealize.ShloMosaic Idealize.ShloMosaic.TcCoe Idealize.ShloMosaic.StableHlo
open Idealize.SL.Sem
open Idealize.ShloMosaic.Pipeline (Dat Cfg Window)
open Cert.DenseDownRef (layerNorm mean row normed)

/-- A point's block of norms, from its five input blocks. -/
theorem pay_apply (x0 : FVec Ideal S256x5632 .bf16) (x1 : FVec Ideal S1x5632x2048 .bf16) (x2 : FVec Ideal S256x2048 .f32)
    (x3 x4 : FVec Ideal S1x1x2048 .f32) (p : Fin 256) (q : Fin 2048) :
    (k0_pay1 (F := Ideal) x0 x1 x2 x3 x4 : FVec Ideal S256x2048 .f32) (ix2 p q)
      = layerNorm (fun f => Scalar.ofBits (F := Ideal) .f32 0x3FD744FD#32 * x2 (ix2 p f) + ∑ k : Fin 5632, x0 (ix2 p k) * x1 (ix3 (0 : Fin 1) k f))
          (x3 (ix3 (0 : Fin 1) (0 : Fin 1) q)) (x4 (ix3 (0 : Fin 1) (0 : Fin 1) q)) q := by
  pointwise [k0_pay1, layerNorm, mean]

/-- The moving blocks go with the point, -/
theorem t0_eq : ∀ t : Fin grid0.N, win0_0.index t = ![t.val, 0] := by decide +kernel

theorem t2_eq : ∀ t : Fin grid0.N, win0_2.index t = ![t.val, 0] := by decide +kernel

theorem t5_eq : ∀ t : Fin grid0.N, win0_5.index t = ![t.val, 0] := by decide +kernel

theorem t6_eq : ∀ t : Fin grid0.N, win0_6.index t = ![t.val, 0] := by decide +kernel

/-- the others stay at the first layer. -/
theorem t1_eq : ∀ t : Fin grid0.N, win0_1.index t = ![0, 0, 0] := by decide +kernel

theorem t3_eq : ∀ t : Fin grid0.N, win0_3.index t = ![0, 0, 0] := by decide +kernel

theorem t4_eq : ∀ t : Fin grid0.N, win0_4.index t = ![0, 0, 0] := by decide +kernel

variable (m : (ℓ : Loc nD τ sig) → Buf (Elt Ideal) ℓ)

/-- The region finds the weights cast: over extended reals, as they were. -/
theorem V_main_v0 (c : Dev nD) : V m c main_v0 = (m ((c.tc : Thread nD τ).loc main_arg1) : FVec Ideal S2x5632x2048 .f32) := by
  show (truncf .bf16 (m ((c.tc : Thread nD τ).loc main_arg1) : FVec Ideal S2x5632x2048 .f32) bitsLt_bf16_f32 : FVec Ideal S2x5632x2048 .bf16) = _
  rfl

/-- It finds the scales with a unit axis between, -/
theorem V_main_v1 (c : Dev nD) (q : Fin 2048) : (V m c main_v1 : FVec Ideal S4x1x2048 .f32) (ix3 (0 : Fin 4) (0 : Fin 1) q)
    = (m ((c.tc : Thread nD τ).loc main_arg3) : FVec Ideal S4x2048 .f32) (ix2 (0 : Fin 4) q) := by
  have h : (V m c main_v1 : FVec Ideal S4x1x2048 .f32) = shapeCast S4x1x2048 (m ((c.tc : Thread nD τ).loc main_arg3) : FVec Ideal S4x2048 .f32) shapeCasts_S4x2048_S4x1x2048 := rfl
  rw [h]
  pointwise

/-- and the shifts likewise. -/
theorem V_main_v2 (c : Dev nD) (q : Fin 2048) : (V m c main_v2 : FVec Ideal S4x1x2048 .f32) (ix3 (0 : Fin 4) (0 : Fin 1) q)
    = (m ((c.tc : Thread nD τ).loc main_arg4) : FVec Ideal S4x2048 .f32) (ix2 (0 : Fin 4) q) := by
  have h : (V m c main_v2 : FVec Ideal S4x1x2048 .f32) = shapeCast S4x1x2048 (m ((c.tc : Thread nD τ).loc main_arg4) : FVec Ideal S4x2048 .f32) shapeCasts_S4x2048_S4x1x2048 := rfl
  rw [h]
  pointwise

/-- The activations' block at a point: its rows. -/
theorem iblk0_apply (c : Dev nD) (t : Fin cfg0.N) (p : Fin 256) (k : Fin 5632) (n : Fin 16384) (h : n.val = t.val * 256 + p.val) :
    (iblk m c 0 t : FVec Ideal S256x5632 .bf16) (ix2 p k) = (m ((c.tc : Thread nD τ).loc main_arg0) : FVec Ideal S16384x5632 .bf16) (ix2 n k) := by
  have hv : V m c main_arg0 = m ((c.tc : Thread nD τ).loc main_arg0) := V_main_arg0 m c
  show (V m c main_arg0 : FVec Ideal S16384x5632 .bf16) (((cfg0.win 0).blk t).view.emb (ix2 p k)) = _
  rw [hv]
  refine congrArg (m ((c.tc : Thread nD τ).loc main_arg0) : FVec Ideal S16384x5632 .bf16) (funext fun a => Fin.ext ?_)
  match a with
  | 0 => blk_simp; rw [t0_eq]; exact h.symm
  | 1 => blk_simp; rw [t0_eq]; exact (Nat.zero_mul _).symm ▸ Nat.zero_add _

/-- The weights' block: the first layer's. -/
theorem iblk1_apply (c : Dev nD) (t : Fin cfg0.N) (k : Fin 5632) (q : Fin 2048) :
    (iblk m c 1 t : FVec Ideal S1x5632x2048 .bf16) (ix3 (0 : Fin 1) k q)
      = (m ((c.tc : Thread nD τ).loc main_arg1) : FVec Ideal S2x5632x2048 .f32) (ix3 (0 : Fin 2) k q) := by
  show (V m c main_v0 : FVec Ideal S2x5632x2048 .f32) (((cfg0.win 1).blk t).view.emb (ix3 (0 : Fin 1) k q)) = _
  rw [V_main_v0]
  refine congrArg (m ((c.tc : Thread nD τ).loc main_arg1) : FVec Ideal S2x5632x2048 .f32) (funext fun a => Fin.ext ?_)
  match a with
  | 0 => blk_simp; rw [t1_eq]; rfl
  | 1 => blk_simp; rw [t1_eq]; exact (Nat.zero_mul _).symm ▸ Nat.zero_add _
  | 2 => blk_simp; rw [t1_eq]; exact (Nat.zero_mul _).symm ▸ Nat.zero_add _

/-- The residual's block: the point's rows. -/
theorem iblk2_apply (c : Dev nD) (t : Fin cfg0.N) (p : Fin 256) (k : Fin 2048) (n : Fin 16384) (h : n.val = t.val * 256 + p.val) :
    (iblk m c 2 t : FVec Ideal S256x2048 .f32) (ix2 p k) = (m ((c.tc : Thread nD τ).loc main_arg2) : FVec Ideal S16384x2048 .f32) (ix2 n k) := by
  have hv : V m c main_arg2 = m ((c.tc : Thread nD τ).loc main_arg2) := V_main_arg2 m c
  show (V m c main_arg2 : FVec Ideal S16384x2048 .f32) (((cfg0.win 2).blk t).view.emb (ix2 p k)) = _
  rw [hv]
  refine congrArg (m ((c.tc : Thread nD τ).loc main_arg2) : FVec Ideal S16384x2048 .f32) (funext fun a => Fin.ext ?_)
  match a with
  | 0 => blk_simp; rw [t2_eq]; exact h.symm
  | 1 => blk_simp; rw [t2_eq]; exact (Nat.zero_mul _).symm ▸ Nat.zero_add _

/-- The scales' block: the first layer's, -/
theorem iblk3_apply (c : Dev nD) (t : Fin cfg0.N) (q : Fin 2048) :
    (iblk m c 3 t : FVec Ideal S1x1x2048 .f32) (ix3 (0 : Fin 1) (0 : Fin 1) q)
      = (m ((c.tc : Thread nD τ).loc main_arg3) : FVec Ideal S4x2048 .f32) (ix2 (0 : Fin 4) q) := by
  refine Eq.trans ?_ (V_main_v1 m c q)
  show (V m c main_v1 : FVec Ideal S4x1x2048 .f32) (((cfg0.win 3).blk t).view.emb (ix3 (0 : Fin 1) (0 : Fin 1) q)) = _
  refine congrArg (V m c main_v1 : FVec Ideal S4x1x2048 .f32) (funext fun a => Fin.ext ?_)
  match a with
  | 0 => blk_simp; rw [t3_eq]; rfl
  | 1 => blk_simp; rw [t3_eq]; rfl
  | 2 => blk_simp; rw [t3_eq]; exact (Nat.zero_mul _).symm ▸ Nat.zero_add _

/-- and the shifts'. -/
theorem iblk4_apply (c : Dev nD) (t : Fin cfg0.N) (q : Fin 2048) :
    (iblk m c 4 t : FVec Ideal S1x1x2048 .f32) (ix3 (0 : Fin 1) (0 : Fin 1) q)
      = (m ((c.tc : Thread nD τ).loc main_arg4) : FVec Ideal S4x2048 .f32) (ix2 (0 : Fin 4) q) := by
  refine Eq.trans ?_ (V_main_v2 m c q)
  show (V m c main_v2 : FVec Ideal S4x1x2048 .f32) (((cfg0.win 4).blk t).view.emb (ix3 (0 : Fin 1) (0 : Fin 1) q)) = _
  refine congrArg (V m c main_v2 : FVec Ideal S4x1x2048 .f32) (funext fun a => Fin.ext ?_)
  match a with
  | 0 => blk_simp; rw [t4_eq]; rfl
  | 1 => blk_simp; rw [t4_eq]; rfl
  | 2 => blk_simp; rw [t4_eq]; exact (Nat.zero_mul _).symm ▸ Nat.zero_add _

/-- A point's norms are the array's, at the place its block has there. -/
theorem blk_apply (c : Dev nD) (t : Fin cfg0.N) (p : Fin 256) (q : Fin 2048) (i : S16384x2048.Idx)
    (e0 : (i 0).val = t.val * 256 + p.val) (e1 : (i 1).val = q.val) :
    (k0_pay1 (F := Ideal) (iblk m c 0 t) (iblk m c 1 t) (iblk m c 2 t) (iblk m c 3 t) (iblk m c 4 t) : FVec Ideal S256x2048 .f32) (ix2 p q)
      = normed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) i := by
  obtain ⟨n, f, rfl⟩ : ∃ (n : Fin 16384) (f : Fin 2048), i = ix2 n f := ⟨i 0, i 1, funext fun a => match a with | 0 => rfl | 1 => rfl⟩
  obtain rfl : f = q := Fin.ext e1
  refine (pay_apply _ _ _ _ _ p f).trans ?_
  rw [iblk3_apply, iblk4_apply]
  refine congrArg (fun s => layerNorm s _ _ f) (funext fun k => ?_)
  exact congrArg₂ (· + ·) (congrArg (_ * ·) (iblk2_apply m c t p k n e0))
    (Finset.sum_congr rfl fun l _ => congrArg₂ (· * ·) (iblk0_apply m c t p l n e0) (iblk1_apply m c t l k))

/-- The first result array after the run holds the layer norms, -/
theorem final (c : Dev nD) : (dats m 0 c).arrAt 5 cfg0.N
    = normed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 5 _ (by decide +kernel) fun t hf y => ?_
  have e0 : ((((cfg0.win 5).blk t).view.emb y : S16384x2048.Idx) 0).val = t.val * 256 + (y 0).val := by
    blk_simp; rw [t5_eq]; rfl
  have e1 : ((((cfg0.win 5).blk t).view.emb y : S16384x2048.Idx) 1).val = (y 1).val := by
    blk_simp; rw [t5_eq]; exact (Nat.zero_mul _).symm ▸ Nat.zero_add _
  generalize (((cfg0.win 5).blk t).view.emb y : S16384x2048.Idx) = i at e0 e1 ⊢
  blk_simp
  rw [after0_5]
  frame_out
  obtain ⟨p, q, rfl⟩ : ∃ (p : Fin 256) (q : Fin 2048), y = ix2 p q := ⟨y 0, y 1, funext fun a => match a with | 0 => rfl | 1 => rfl⟩
  exact blk_apply m c t p q i e0 e1

/-- and so does the second, which is the first cast. -/
theorem final_cast (c : Dev nD) : (dats m 0 c).arrAt 6 cfg0.N
    = normed (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 6 _ (by decide +kernel) fun t hf y => ?_
  have e0 : ((((cfg0.win 6).blk t).view.emb y : S16384x2048.Idx) 0).val = t.val * 256 + (y 0).val := by
    blk_simp; rw [t6_eq]; rfl
  have e1 : ((((cfg0.win 6).blk t).view.emb y : S16384x2048.Idx) 1).val = (y 1).val := by
    blk_simp; rw [t6_eq]; exact (Nat.zero_mul _).symm ▸ Nat.zero_add _
  generalize (((cfg0.win 6).blk t).view.emb y : S16384x2048.Idx) = i at e0 e1 ⊢
  blk_simp
  rw [after0_6]
  frame_out
  obtain ⟨p, q, rfl⟩ : ∃ (p : Fin 256) (q : Fin 2048), y = ix2 p q := ⟨y 0, y 1, funext fun a => match a with | 0 => rfl | 1 => rfl⟩
  exact blk_apply m c t p q i e0 e1

end Cert.Kernel4Ideal.DenseDown

end
-- ==== Proof.DenseDown.Claims.lean ====
module

public import proofs.«01_k».proof.Defs
public import proofs.«01_k».proof.Proof.DenseDown.Value
public import proofs.«01_k».proof.Proof.Gen.Kernel4.Frame
public import Idealize.ShloMosaic.Lib.Quiescent

@[expose] public section

set_option maxRecDepth 16384

noncomputable section

/-! The claims about the fourth kernel, from its run and its value. -/

namespace Cert.DenseDownClaims

open Idealize.ShloMosaic Idealize.ShloMosaic.TcCoe Idealize.SL.Sem

/-- The kernel terminates, its arguments unchanged and its counters at zero: over extended reals, -/
theorem frame_ideal : Cert.quiescent_Kernel4Ideal := fun m ρ _ => Cert.Kernel4Ideal.Gen.frame (F := Ideal) m ρ

/-- and as launched. -/
theorem frame_kernel : Cert.quiescent_Kernel4 := fun m ρ _ => Cert.Kernel4.Gen.frame (F := Bits) m ρ

/-- The reference terminates with its arguments unchanged. -/
theorem frame_reference : Cert.quiescent_Reference4Ideal := fun m ρ _ =>
  (θ_run Cert.Reference4Ideal.defs _ _).mono (fun r h => ⟨fun c => (h c).2.2, sem_eq_zero_of_no_sems (by decide) r.2⟩) (Cert.Reference4Ideal.Value.run (F := Ideal) m ρ)

/-- The reference's first result, from arguments equal to the kernel's, is the kernel's layer norms. -/
theorem reference_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread _ _).loc Cert.Reference4Ideal.main_arg0) = m ((c.tc : Thread _ _).loc Cert.Kernel4Ideal.main_arg0))
    (h1 : m' ((c.tc : Thread _ _).loc Cert.Reference4Ideal.main_arg1) = m ((c.tc : Thread _ _).loc Cert.Kernel4Ideal.main_arg1))
    (h2 : m' ((c.tc : Thread _ _).loc Cert.Reference4Ideal.main_arg2) = m ((c.tc : Thread _ _).loc Cert.Kernel4Ideal.main_arg2))
    (h3 : m' ((c.tc : Thread _ _).loc Cert.Reference4Ideal.main_arg3) = m ((c.tc : Thread _ _).loc Cert.Kernel4Ideal.main_arg3))
    (h4 : m' ((c.tc : Thread _ _).loc Cert.Reference4Ideal.main_arg4) = m ((c.tc : Thread _ _).loc Cert.Kernel4Ideal.main_arg4)) :
    (Cert.Reference4Ideal.Value.res_main_v34 m' c : FVec Ideal Cert.Kernel4Ideal.S16384x2048 .f32)
      = DenseDownRef.normed (m ((c.tc : Thread _ _).loc Cert.Kernel4Ideal.main_arg0)) (m ((c.tc : Thread _ _).loc Cert.Kernel4Ideal.main_arg1))
          (m ((c.tc : Thread _ _).loc Cert.Kernel4Ideal.main_arg2)) (m ((c.tc : Thread _ _).loc Cert.Kernel4Ideal.main_arg3))
          (m ((c.tc : Thread _ _).loc Cert.Kernel4Ideal.main_arg4)) :=
  (DenseDownRef.result_eq m' c).trans (h0 ▸ h1 ▸ h2 ▸ h3 ▸ h4 ▸ rfl)

/-- The kernel's two results are the reference's, element by element, on equal arguments. -/
theorem value : Cert.algebraic_Kernel4Ideal_Reference4Ideal := fun m ρ m' ρ' _ hag =>
  ⟨fun c => (Cert.Kernel4Ideal.Gen.dats m 0 c).arrAt 5 Cert.Kernel4Ideal.cfg0.N, fun c => (Cert.Kernel4Ideal.Gen.dats m 0 c).arrAt 6 Cert.Kernel4Ideal.cfg0.N,
    Cert.Kernel4Ideal.Value.run_blocks (F := Ideal) m ρ,
    (θ_run Cert.Reference4Ideal.defs _ _).mono (fun _ h c =>
      have e := reference_eq m m' c (hag c).1 (hag c).2.1 (hag c).2.2.1 (hag c).2.2.2.1 (hag c).2.2.2.2
      ⟨(h c).1.trans (e.trans (Cert.Kernel4Ideal.DenseDown.final m c).symm),
        (h c).2.1.trans ((DenseDownRef.result_cast m' c).trans (e.trans (Cert.Kernel4Ideal.DenseDown.final_cast m c).symm)), (h c).2.2⟩)
      (Cert.Reference4Ideal.Value.run (F := Ideal) m' ρ')⟩

end Cert.DenseDownClaims

end
-- ==== Proof.InProj.Ref.lean ====
module

public import proofs.«01_k».proof.Proof.Gen.Reference5Ideal.Run
public import Idealize.ShloMosaic.Lib.Pointwise
public import Idealize.ShloMosaic.Lib.IdealHost

@[expose] public section

set_option maxRecDepth 16384

noncomputable section

/-! The fifth reference's result read at one row and column: the projection, rotated in the leading lanes of the first heads. -/

namespace Cert.InProjRef

open Idealize.ShloMosaic Idealize.ShloMosaic.TcCoe Idealize.ShloMosaic.StableHlo
open Cert.Reference5Ideal Cert.Reference5Ideal.Gen Cert.Reference5Ideal.Value

/-- The rotation's frequencies. -/
def freq (j : ℕ) : EReal :=
  Ideal.pow (Ideal.ofBits FTy.f32 0x48F42400#32) (Ideal.div (-(Ideal.ofBits FTy.f32 0x40000000#32 * FloatOps.sitofp (F := Ideal) FTy.f32 (BitVec.ofNat 32 j))) (Ideal.ofBits FTy.f32 0x42000000#32))

/-- A row's angles: its position times the frequencies. -/
def ang (pos : IVec S4x4096 32) (n : Fin 16384) (j : ℕ) : EReal :=
  FloatOps.sitofp (F := Ideal) FTy.f32 (pos (ix2 (⟨n.val / 4096, by omega⟩ : Fin 4) (⟨n.val % 4096, by omega⟩ : Fin 4096))) * freq j

/-- A row's product with a column of the first layer's weights. -/
def dotAt (x : FVec Ideal S16384x2048 .bf16) (w : FVec Ideal S4x2048x5664 .f32) (n : Fin 16384) (f : ℕ) : EReal :=
  ∑ k : Fin 2048, x (ix2 n k) * w (ix3 (0 : Fin 4) k (⟨f % 5664, by omega⟩ : Fin 5664))

/-- Lane `l` of a head, at column `f` of the products `d`, turned by the angles `a`: the first sixteen lanes and the next
    sixteen are the pairs. -/
def turned (d a : ℕ → EReal) (f l : ℕ) : EReal :=
  if l < 16 then d f * Ideal.cos (a l) - d (16 + f) * Ideal.sin (a l)
  else if l - 16 < 16 then d f * Ideal.cos (a (l - 16)) + d (f - 16) * Ideal.sin (a (l - 16))
  else d f

/-- The projection: the first 2048 columns turned head by head, the others the products. -/
def projected (x : FVec Ideal S16384x2048 .bf16) (w : FVec Ideal S4x2048x5664 .f32) (pos : IVec S4x4096 32) : S16384x5632.Idx → EReal := fun i =>
  if (i 1).val < 2048 then turned (dotAt x w (i 0)) (ang pos (i 0)) (i 1).val ((i 1).val % 128) else dotAt x w (i 0) (i 1).val

/-- The reference's projection. -/
def proj (x : FVec Ideal S16384x2048 .bf16) (w : FVec Ideal S4x2048x5664 .f32) : FVec Ideal S4x4096x5664 .f32 :=
  Host.dotGeneral dot_S4x4096x2048_S2048x5664_S4x4096x5664_2_0_01_1_n_n none
    (shapeCast S4x4096x2048 (extf .f32 x bitsLt_bf16_f32 : FVec Ideal S16384x2048 .f32) shapeCasts_S16384x2048_S4x4096x2048)
    (shapeCast S2048x5664 (extractStridedSlice S1x2048x5664 ![0, 0, 0] w slices_S4x2048x5664_S1x2048x5664_0_0_0) shapeCasts_S1x2048x5664_S2048x5664)

/-- The positions' angles. -/
def angles (pos : IVec S4x4096 32) : FVec Ideal S4x4096x16 .f32 :=
  mulf (broadcastInDim S4x4096x16 ![0, 1, 2] bcast_S4x4096x1_S4x4096x16_0_1_2 (broadcastInDim S4x4096x1 ![0, 1] bcast_S4x4096_S4x4096x1_0_1 (sitofp .f32 pos : FVec Ideal S4x4096 .f32)))
    (broadcastInDim S4x4096x16 ![0, 1, 2] bcast_S1x1x16_S4x4096x16_0_1_2 (broadcastInDim S1x1x16 ![2] bcast_S16_S1x1x16_2
      (Host.powf (broadcastInDim S16 ![] bcast_S_S16 (constant S_ .f32 0x48F42400#32)) (Host.divf (Host.negf (addf (broadcastInDim S16 ![] bcast_S_S16 (constant S_ .f32 0x00000000#32))
        (mulf (broadcastInDim S16 ![] bcast_S_S16 (constant S_ .f32 0x40000000#32)) (sitofp .f32 (iotaInDim S16 32 0))))) (broadcastInDim S16 ![] bcast_S_S16 (constant S_ .f32 0x42000000#32))) : FVec Ideal S16 .f32)))

/-- The rotation of the heads' lanes by the angles. -/
def rotated (t : FVec Ideal S4x4096x8x128 .f32) (a : FVec Ideal S4x4096x16 .f32) : FVec Ideal S4x4096x8x128 .f32 :=
  concatenate S4x4096x8x128 3 [⟨S4x4096x8x16, (subf
      (mulf (extractStridedSlice S4x4096x8x16 ![0, 0, 0, 0] t slices_S4x4096x8x128_S4x4096x8x16_0_0_0_0)
        (broadcastInDim S4x4096x8x16 ![0, 1, 2, 3] bcast_S4x4096x1x16_S4x4096x8x16_0_1_2_3 (broadcastInDim S4x4096x1x16 ![0, 1, 3] bcast_S4x4096x16_S4x4096x1x16_0_1_3 (Host.cos a))))
      (mulf (extractStridedSlice S4x4096x8x16 ![0, 0, 0, 16] t slices_S4x4096x8x128_S4x4096x8x16_0_0_0_16)
        (broadcastInDim S4x4096x8x16 ![0, 1, 2, 3] bcast_S4x4096x1x16_S4x4096x8x16_0_1_2_3 (broadcastInDim S4x4096x1x16 ![0, 1, 3] bcast_S4x4096x16_S4x4096x1x16_0_1_3 (Host.sin a)))) : FVec Ideal S4x4096x8x16 .f32)⟩,
    ⟨S4x4096x8x16, (addf
      (mulf (extractStridedSlice S4x4096x8x16 ![0, 0, 0, 16] t slices_S4x4096x8x128_S4x4096x8x16_0_0_0_16)
        (broadcastInDim S4x4096x8x16 ![0, 1, 2, 3] bcast_S4x4096x1x16_S4x4096x8x16_0_1_2_3 (broadcastInDim S4x4096x1x16 ![0, 1, 3] bcast_S4x4096x16_S4x4096x1x16_0_1_3 (Host.cos a))))
      (mulf (extractStridedSlice S4x4096x8x16 ![0, 0, 0, 0] t slices_S4x4096x8x128_S4x4096x8x16_0_0_0_0)
        (broadcastInDim S4x4096x8x16 ![0, 1, 2, 3] bcast_S4x4096x1x16_S4x4096x8x16_0_1_2_3 (broadcastInDim S4x4096x1x16 ![0, 1, 3] bcast_S4x4096x16_S4x4096x1x16_0_1_3 (Host.sin a)))) : FVec Ideal S4x4096x8x16 .f32)⟩,
    ⟨S4x4096x8x96, (extractStridedSlice S4x4096x8x96 ![0, 0, 0, 32] t slices_S4x4096x8x128_S4x4096x8x96_0_0_0_32 : FVec Ideal S4x4096x8x96 .f32)⟩]
    concatenates_S4x4096x8x16_S4x4096x8x16_S4x4096x8x96_S4x4096x8x128_d3

/-- The first two groups of eight heads rotated, the other columns as projected. -/
def assembled (d : FVec Ideal S4x4096x5664 .f32) (a : FVec Ideal S4x4096x16 .f32) : FVec Ideal S16384x5632 .f32 :=
  shapeCast S16384x5632 (concatenate S4x4096x5632 2
    [⟨S4x4096x1024, (shapeCast S4x4096x1024 (rotated (shapeCast S4x4096x8x128 (extractStridedSlice S4x4096x1024 ![0, 0, 0] d slices_S4x4096x5664_S4x4096x1024_0_0_0) shapeCasts_S4x4096x1024_S4x4096x8x128) a) shapeCasts_S4x4096x8x128_S4x4096x1024 : FVec Ideal S4x4096x1024 .f32)⟩,
      ⟨S4x4096x1024, (shapeCast S4x4096x1024 (rotated (shapeCast S4x4096x8x128 (extractStridedSlice S4x4096x1024 ![0, 0, 1024] d slices_S4x4096x5664_S4x4096x1024_0_0_1024) shapeCasts_S4x4096x1024_S4x4096x8x128) a) shapeCasts_S4x4096x8x128_S4x4096x1024 : FVec Ideal S4x4096x1024 .f32)⟩,
      ⟨S4x4096x3584, (extractStridedSlice S4x4096x3584 ![0, 0, 2048] d slices_S4x4096x5664_S4x4096x3584_0_0_2048 : FVec Ideal S4x4096x3584 .f32)⟩]
    concatenates_S4x4096x1024_S4x4096x1024_S4x4096x3584_S4x4096x5632_d2 : FVec Ideal S4x4096x5632 .f32) shapeCasts_S4x4096x5632_S16384x5632

theorem proj_apply (x : FVec Ideal S16384x2048 .bf16) (w : FVec Ideal S4x2048x5664 .f32) (n : Fin 16384) (f : Fin 5664) :
    proj x w (ix3 (⟨n.val / 4096, by omega⟩ : Fin 4) (⟨n.val % 4096, by omega⟩ : Fin 4096) f) = dotAt x w n f.val := by
  have e : (⟨f.val % 5664, by omega⟩ : Fin 5664) = f := Fin.ext (Nat.mod_eq_of_lt f.isLt)
  unfold dotAt
  rw [e]
  pointwise [proj]

theorem angles_apply (pos : IVec S4x4096 32) (n : Fin 16384) (j : Fin 16) :
    angles pos (ix3 (⟨n.val / 4096, by omega⟩ : Fin 4) (⟨n.val % 4096, by omega⟩ : Fin 4096) j) = ang pos n j.val := by
  pointwise [angles, ang, freq]

/-- A head whose lanes are the columns from `o` on is turned lane by lane. -/
theorem rotated_apply (t : FVec Ideal S4x4096x8x128 .f32) (a : FVec Ideal S4x4096x16 .f32) (b : Fin 4) (s : Fin 4096) (h : Fin 8) (l : Fin 128)
    (d α : ℕ → EReal) (o : ℕ) (ht : ∀ k : Fin 128, t (ix4 b s h k) = d (o + k.val)) (ha : ∀ j : Fin 16, a (ix3 b s j) = α j.val) :
    rotated t a (ix4 b s h l) = turned d α (o + l.val) l.val := by
  have hl := l.isLt
  pointwise [rotated, turned]
  simp only [ht, ha]
  split
  · rw [Nat.add_left_comm]
  · split
    · rw [show o + (16 + (l.val - 16)) = o + l.val by omega, show o + (l.val - 16) = o + l.val - 16 by omega]
    · rw [show o + (32 + (l.val - 16 - 16)) = o + l.val by omega]

/-- The first group's heads hold the columns from 0 on, -/
theorem first_apply (d : FVec Ideal S4x4096x5664 .f32) (b : Fin 4) (s : Fin 4096) (h : Fin 8) (l : Fin 128) :
    (shapeCast S4x4096x8x128 (extractStridedSlice S4x4096x1024 ![0, 0, 0] d slices_S4x4096x5664_S4x4096x1024_0_0_0) shapeCasts_S4x4096x1024_S4x4096x8x128 : FVec Ideal S4x4096x8x128 .f32) (ix4 b s h l)
      = d (ix3 b s (⟨h.val * 128 + l.val, by omega⟩ : Fin 5664)) := by
  pointwise

/-- the second's those from 1024 on. -/
theorem second_apply (d : FVec Ideal S4x4096x5664 .f32) (b : Fin 4) (s : Fin 4096) (h : Fin 8) (l : Fin 128) :
    (shapeCast S4x4096x8x128 (extractStridedSlice S4x4096x1024 ![0, 0, 1024] d slices_S4x4096x5664_S4x4096x1024_0_0_1024) shapeCasts_S4x4096x1024_S4x4096x8x128 : FVec Ideal S4x4096x8x128 .f32) (ix4 b s h l)
      = d (ix3 b s (⟨1024 + (h.val * 128 + l.val), by omega⟩ : Fin 5664)) := by
  pointwise

/-- The assembled columns, group by group. -/
theorem assembled_apply (d : FVec Ideal S4x4096x5664 .f32) (a : FVec Ideal S4x4096x16 .f32) (n : Fin 16384) (f : Fin 5632) :
    assembled d a (ix2 n f) =
      if h : f.val < 1024 then
        rotated (shapeCast S4x4096x8x128 (extractStridedSlice S4x4096x1024 ![0, 0, 0] d slices_S4x4096x5664_S4x4096x1024_0_0_0) shapeCasts_S4x4096x1024_S4x4096x8x128)
          a (ix4 (⟨n.val / 4096, by omega⟩ : Fin 4) (⟨n.val % 4096, by omega⟩ : Fin 4096) (⟨f.val / 128, by omega⟩ : Fin 8) (⟨f.val % 128, by omega⟩ : Fin 128))
      else if h : f.val - 1024 < 1024 then
        rotated (shapeCast S4x4096x8x128 (extractStridedSlice S4x4096x1024 ![0, 0, 1024] d slices_S4x4096x5664_S4x4096x1024_0_0_1024) shapeCasts_S4x4096x1024_S4x4096x8x128)
          a (ix4 (⟨n.val / 4096, by omega⟩ : Fin 4) (⟨n.val % 4096, by omega⟩ : Fin 4096) (⟨(f.val - 1024) / 128, by omega⟩ : Fin 8) (⟨(f.val - 1024) % 128, by omega⟩ : Fin 128))
      else d (ix3 (⟨n.val / 4096, by omega⟩ : Fin 4) (⟨n.val % 4096, by omega⟩ : Fin 4096) (⟨2048 + (f.val - 1024 - 1024), by omega⟩ : Fin 5664)) := by
  pointwise [assembled]

/-- The reference's result is the projection. -/
theorem assembled_eq (x : FVec Ideal S16384x2048 .bf16) (w : FVec Ideal S4x2048x5664 .f32) (pos : IVec S4x4096 32) :
    assembled (proj x w) (angles pos) = projected x w pos := by
  funext i
  obtain ⟨n, f, rfl⟩ : ∃ (n : Fin 16384) (f : Fin 5632), i = ix2 n f := ⟨i 0, i 1, funext fun a => match a with | 0 => rfl | 1 => rfl⟩
  show _ = if f.val < 2048 then turned (dotAt x w n) (ang pos n) f.val (f.val % 128) else dotAt x w n f.val
  rw [assembled_apply]
  by_cases h : f.val < 1024
  · rw [dif_pos h, if_pos (show f.val < 2048 by omega)]
    refine (rotated_apply _ _ _ _ _ _ (dotAt x w n) (ang pos n) (f.val / 128 * 128) (fun k => ?_) (angles_apply pos n)).trans ?_
    · rw [first_apply, proj_apply]
    · show turned _ _ (f.val / 128 * 128 + f.val % 128) (f.val % 128) = _
      rw [Nat.div_add_mod']
  · rw [dif_neg h]
    by_cases h' : f.val - 1024 < 1024
    · rw [dif_pos h', if_pos (show f.val < 2048 by omega)]
      refine (rotated_apply _ _ _ _ _ _ (dotAt x w n) (ang pos n) (1024 + (f.val - 1024) / 128 * 128) (fun k => ?_) (angles_apply pos n)).trans ?_
      · rw [second_apply, proj_apply]
        exact congrArg (dotAt x w n) (Nat.add_assoc _ _ _).symm
      · show turned _ _ (1024 + (f.val - 1024) / 128 * 128 + (f.val - 1024) % 128) ((f.val - 1024) % 128) = _
        rw [show 1024 + (f.val - 1024) / 128 * 128 + (f.val - 1024) % 128 = f.val by omega, show (f.val - 1024) % 128 = f.val % 128 by omega]
    · rw [dif_neg h', if_neg (show ¬ f.val < 2048 by omega), proj_apply]
      exact congrArg (dotAt x w n) (show 2048 + (f.val - 1024 - 1024) = f.val by omega)

variable (m : (ℓ : Loc nD τ sig) → Buf (Elt Ideal) ℓ) (c : Dev nD)

theorem result_eq : (res_main_v62 m c : FVec Ideal S16384x5632 .f32)
    = projected (m ((c.tc : Thread nD τ).loc main_arg0)) (m ((c.tc : Thread nD τ).loc main_arg1)) (m ((c.tc : Thread nD τ).loc main_arg2)) :=
  Eq.trans (b := assembled (proj (m ((c.tc : Thread nD τ).loc main_arg0)) (m ((c.tc : Thread nD τ).loc main_arg1))) (angles (m ((c.tc : Thread nD τ).loc main_arg2))))
    rfl (assembled_eq _ _ _)

end Cert.InProjRef

end
-- ==== Proof.InProj.Value.lean ====
module

public import proofs.«01_k».proof.Proof.Gen.Kernel5Ideal.Value
public import proofs.«01_k».proof.Proof.InProj.Ref
public import Idealize.ShloMosaic.Lib.Pipeline.ValueKit

@[expose] public section

set_option maxRecDepth 16384

noncomputable section

/-! What the input projection's result array holds at `Ideal`: the products, the first heads' leading lanes rotated. -/

namespace Cert.Kernel5Ideal.InProj

open Cert.Kernel5Ideal.Gen
open Idealize.ShloMosaic Idealize.ShloMosaic.TcCoe Idealize.ShloMosaic.StableHlo
open Idealize.SL.Sem
open Idealize.ShloMosaic.Pipeline (Dat Cfg Window)
open Cert.InProjRef (freq ang dotAt turned projected)

/-- The product block of a point, from its rows and its columns. -/
theorem pay1_apply (x0 : FVec Ideal S2048x2048 .bf16) (x1 : FVec Ideal S1x2048x512 .f32) (p : Fin 2048) (q : Fin 512) :
    (k0_pay1 (F := Ideal) x0 x1 : FVec Ideal S2048x512 .f32) (ix2 p q) = ∑ k : Fin 2048, x0 (ix2 p k) * x1 (ix3 (0 : Fin 1) k q) := by
  pointwise [k0_pay1]

/-- The first table at a lane: cosines twice, then ones. -/
def cosAt (α : ℕ → EReal) (l : ℕ) : EReal := if l < 16 then Ideal.cos (α l) else if l - 16 < 16 then Ideal.cos (α (l - 16)) else 1

/-- The second: sines with the sign off and on, then zeros. -/
def sinAt (α : ℕ → EReal) (l : ℕ) : EReal := if l < 16 then -Ideal.sin (α l) else if l - 16 < 16 then Ideal.sin (α (l - 16)) else 0

/-- The tables' combination of a lane and its partner is the rotation. -/
theorem turned_eq (d α : ℕ → EReal) (f l : ℕ) (u u' : EReal) (h : l < 16 → u = d (16 + f)) (h' : ¬ l < 16 → l - 16 < 16 → u' = d (f - 16)) :
    d f * cosAt α l + (if l < 16 then u else u') * sinAt α l = turned d α f l := by
  unfold cosAt sinAt turned
  by_cases h1 : l < 16
  · simp only [if_pos h1]
    rw [h h1, mul_neg, sub_eq_add_neg]
  · simp only [if_neg h1]
    by_cases h2 : l - 16 < 16
    · simp only [if_pos h2]
      rw [h' h1 h2]
    · simp only [if_neg h2]
      rw [mul_one, mul_zero, add_zero]

/-- The lanes below sixteen, told by their numbers' comparison. -/
theorem select_lane : ∀ q : Fin 128, IntOp.cmpi .slt (BitVec.ofNat 32 q.val) 16#32 = if q.val < 16 then 1#1 else 0#1 := by decide +kernel

/-- One head's store: its 128 lanes from `o` on, combined through the tables. -/
def head (o : ℕ) (h : S2048x512.Slices ![0, o] S2048x128) (v : FVec Ideal S2048x512 .f32) (c s : FVec Ideal S2048x128 .f32) : FVec Ideal S2048x128 .f32 :=
  addf (mulf (extractStridedSlice S2048x128 ![0, o] v h) (k0_pay3 c))
    (mulf (select (cmpi .slt (iota .tc S2048x128 32 [1] iota_S2048x128_d1_w32) (broadcast S2048x128 16#32))
      (dynamicRotate 1 112#32 none (extractStridedSlice S2048x128 ![0, o] v h) rotates_S2048x128_d1)
      (dynamicRotate 1 16#32 none (extractStridedSlice S2048x128 ![0, o] v h) rotates_S2048x128_d1)) (k0_pay4 s))

theorem head_apply (o : ℕ) (h : S2048x512.Slices ![0, o] S2048x128) (ho : o + 128 ≤ 512) (v : FVec Ideal S2048x512 .f32) (c s : FVec Ideal S2048x128 .f32)
    (p : Fin 2048) (q : Fin 128) (d α : ℕ → EReal) (f : ℕ) (hv : ∀ k : Fin 512, v (ix2 p k) = d (f + k.val))
    (hc : c (ix2 p q) = cosAt α q.val) (hs : s (ix2 p q) = sinAt α q.val) :
    head o h v c s (ix2 p q) = turned d α (f + (o + q.val)) q.val := by
  have hq := q.isLt
  refine Eq.trans ?_ (turned_eq d α (f + (o + q.val)) q.val (d (f + (o + (q.val + 128 - 112) % 128))) (d (f + (o + (q.val + 128 - 16) % 128))) ?_ ?_)
  · pointwise [head, k0_pay3, k0_pay4]
    rw [select_lane, hc, hs]
    simp only [hv]
    split <;> rfl
  · intro hl
    rw [show (q.val + 128 - 112) % 128 = q.val + 16 by omega]
    exact congrArg d (by omega)
  · intro hl hl'
    rw [show (q.val + 128 - 16) % 128 = q.val - 16 by omega]
    exact congrArg d (by omega)

/-- The rows' angles, as the host has them. -/
def angles (pos : IVec S4x4096 32) : FVec Ideal S16384x16 .f32 :=
  mulf (broadcastInDim S16384x16 ![0, 1] bcast_S16384x1_S16384x16_0_1 (shapeCast S16384x1 (sitofp .f32 pos : FVec Ideal S4x4096 .f32) shapeCasts_S4x4096_S16384x1))
    (broadcastInDim S16384x16 ![0, 1] bcast_S1x16_S16384x16_0_1 (broadcastInDim S1x16 ![1] bcast_S16_S1x16_1
      (Host.powf (broadcastInDim S16 ![] bcast_S_S16 (constant S_ .f32 0x48F42400#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))) : FVec Ideal S16 .f32)))

/-- The two tables. -/
def cosTable (a : FVec Ideal S16384x16 .f32) : FVec Ideal S16384x128 .f32 :=
  concatenate S16384x128 1 [⟨S16384x16, (Host.cos a : FVec Ideal S16384x16 .f32)⟩, ⟨S16384x16, (Host.cos a : FVec Ideal S16384x16 .f32)⟩,
    ⟨S16384x96, (broadcastInDim S16384x96 ![] bcast_S_S16384x96 (constant S_ .f32 0x3F800000#32) : FVec Ideal S16384x96 .f32)⟩]
    concatenates_S16384x16_S16384x16_S16384x96_S16384x128_d1

def sinTable (a : FVec Ideal S16384x16 .f32) : FVec Ideal S16384x128 .f32 :=
  concatenate S16384x128 1 [⟨S16384x16, (Host.negf (Host.sin a) : FVec Ideal S16384x16 .f32)⟩, ⟨S16384x16, (Host.sin a : FVec Ideal S16384x16 .f32)⟩,
    ⟨S16384x96, (broadcastInDim S16384x96 ![] bcast_S_S16384x96 (constant S_ .f32 0x00000000#32) : FVec Ideal S16384x96 .f32)⟩]
    concatenates_S16384x16_S16384x16_S16384x96_S16384x128_d1

theorem angles_apply (pos : IVec S4x4096 32) (n : Fin 16384) (j : Fin 16) : angles pos (ix2 n j) = ang pos n j.val := by
  pointwise [angles, ang, freq]

theorem cosTable_apply (a : FVec Ideal S16384x16 .f32) (n : Fin 16384) (l : Fin 128) (α : ℕ → EReal) (h : ∀ j : Fin 16, a (ix2 n j) = α j.val) :
    cosTable a (ix2 n l) = cosAt α l.val := by
  pointwise [cosTable, cosAt]
  simp only [h]
  first | done | rfl

theorem sinTable_apply (a : FVec Ideal S16384x16 .f32) (n : Fin 16384) (l : Fin 128) (α : ℕ → EReal) (h : ∀ j : Fin 16, a (ix2 n j) = α j.val) :
    sinTable a (ix2 n l) = sinAt α l.val := by
  pointwise [sinTable, sinAt]
  simp only [h]
  first | done | rfl

/-- The rows' block and the tables' move with the rows, -/
theorem t0_eq : ∀ t : Fin grid0.N, win0_0.index t = ![t.val / 11, 0] := by decide +kernel

theorem t2_eq : ∀ t : Fin grid0.N, win0_2.index t = ![t.val / 11, 0] := by decide +kernel

theorem t3_eq : ∀ t : Fin grid0.N, win0_3.index t = ![t.val / 11, 0] := by decide +kernel

/-- the weights' with the columns, -/
theorem t1_eq : ∀ t : Fin grid0.N, win0_1.index t = ![0, 0, t.val % 11] := by decide +kernel

/-- and the result's with both. -/
theorem t4_eq : ∀ t : Fin grid0.N, win0_4.index t = ![t.val / 11, t.val % 11] := by decide +kernel

variable (m : (ℓ : Loc nD τ sig) → Buf (Elt Ideal) ℓ)

/-- The region finds the tables of the positions' angles. -/
theorem V_main_v19 (c : Dev nD) : (V m c main_v19 : FVec Ideal S16384x128 .f32) = cosTable (angles (m ((c.tc : Thread nD τ).loc main_arg2))) := rfl

theorem V_main_v22 (c : Dev nD) : (V m c main_v22 : FVec Ideal S16384x128 .f32) = sinTable (angles (m ((c.tc : Thread nD τ).loc main_arg2))) := rfl

/-- The first window's block at a point: its rows of the activations. -/
theorem iblk0_apply (c : Dev nD) (t : Fin cfg0.N) (p k : Fin 2048) (n : Fin 16384) (h : n.val = t.val / 11 * 2048 + p.val) :
    (iblk m c 0 t : FVec Ideal S2048x2048 .bf16) (ix2 p k) = (m ((c.tc : Thread nD τ).loc main_arg0) : FVec Ideal S16384x2048 .bf16) (ix2 n k) := by
  have hv : V m c main_arg0 = m ((c.tc : Thread nD τ).loc main_arg0) := V_main_arg0 m c
  show (V m c main_arg0 : FVec Ideal S16384x2048 .bf16) (((cfg0.win 0).blk t).view.emb (ix2 p k)) = _
  rw [hv]
  refine congrArg (m ((c.tc : Thread nD τ).loc main_arg0) : FVec Ideal S16384x2048 .bf16) (funext fun a => Fin.ext ?_)
  match a with
  | 0 => blk_simp; rw [t0_eq]; exact h.symm
  | 1 => blk_simp; rw [t0_eq]; exact (Nat.zero_mul _).symm ▸ Nat.zero_add _

/-- A place of the weights' block, in the array. -/
theorem emb1 (t : Fin cfg0.N) (y : ((cfg0.win 1).xblock (cfg0.grid.coords t)).Idx) (a : Fin 3) :
    ((((cfg0.win 1).blk t).view.emb y : S4x2048x5664.Idx) a).val = win0_1.index t a * S1x2048x512.size a + (y a).val :=
  ValueKit.view_emb_slice_whole_unit_val main_arg1 (fun a => win0_1.index t a * S1x2048x512.size a) _ _ y a

/-- The second window's: its columns of the weights. -/
theorem X1_apply (c : Dev nD) (t : Fin cfg0.N) (k : Fin 2048) (q : Fin 512) (f : Fin 5664) (h : f.val = t.val % 11 * 512 + q.val) :
    (X0_1 m c t : FVec Ideal S1x2048x512 .f32) (ix3 (0 : Fin 1) k q)
      = (m ((c.tc : Thread nD τ).loc main_arg1) : FVec Ideal S4x2048x5664 .f32) (ix3 (0 : Fin 4) k f) := by
  have hv : V m c main_arg1 = m ((c.tc : Thread nD τ).loc main_arg1) := V_main_arg1 m c
  unfold X0_1 Pipeline.Window.fill
  rw [dif_pos (moved0_1 t _)]
  show (V m c main_arg1 : FVec Ideal S4x2048x5664 .f32) (((cfg0.win 1).blk t).view.emb _) = _
  rw [hv]
  refine congrArg (m ((c.tc : Thread nD τ).loc main_arg1) : FVec Ideal S4x2048x5664 .f32) (funext fun a => Fin.ext ?_)
  match a with
  | 0 => exact (emb1 t _ 0).trans (congrArg (fun b => b * 1 + 0) (congrFun (t1_eq t) 0))
  | 1 => exact (emb1 t _ 1).trans ((congrArg (fun b => b * 2048 + k.val) (congrFun (t1_eq t) 1)).trans ((congrArg (· + k.val) (Nat.zero_mul 2048)).trans (Nat.zero_add _)))
  | 2 => exact (emb1 t _ 2).trans ((congrArg (fun b => b * 512 + q.val) (congrFun (t1_eq t) 2)).trans h.symm)

/-- The tables' windows: their rows of the tables. -/
theorem iblk2_apply (c : Dev nD) (t : Fin cfg0.N) (p : Fin 2048) (l : Fin 128) (n : Fin 16384) (h : n.val = t.val / 11 * 2048 + p.val) :
    (iblk m c 2 t : FVec Ideal S2048x128 .f32) (ix2 p l) = cosAt (ang (m ((c.tc : Thread nD τ).loc main_arg2)) n) l.val := by
  show (V m c main_v19 : FVec Ideal S16384x128 .f32) (((cfg0.win 2).blk t).view.emb (ix2 p l)) = _
  rw [V_main_v19]
  refine Eq.trans (congrArg _ (funext fun a => Fin.ext ?_)) (cosTable_apply _ n l _ (angles_apply _ n))
  match a with
  | 0 => blk_simp; rw [t2_eq]; exact h.symm
  | 1 => blk_simp; rw [t2_eq]; exact (Nat.zero_mul _).symm ▸ Nat.zero_add _

theorem iblk3_apply (c : Dev nD) (t : Fin cfg0.N) (p : Fin 2048) (l : Fin 128) (n : Fin 16384) (h : n.val = t.val / 11 * 2048 + p.val) :
    (iblk m c 3 t : FVec Ideal S2048x128 .f32) (ix2 p l) = sinAt (ang (m ((c.tc : Thread nD τ).loc main_arg2)) n) l.val := by
  show (V m c main_v22 : FVec Ideal S16384x128 .f32) (((cfg0.win 3).blk t).view.emb (ix2 p l)) = _
  rw [V_main_v22]
  refine Eq.trans (congrArg _ (funext fun a => Fin.ext ?_)) (sinTable_apply _ n l _ (angles_apply _ n))
  match a with
  | 0 => blk_simp; rw [t3_eq]; exact h.symm
  | 1 => blk_simp; rw [t3_eq]; exact (Nat.zero_mul _).symm ▸ Nat.zero_add _

/-- The product block holds the products of its rows and columns. -/
theorem block_apply (c : Dev nD) (t : Fin cfg0.N) (p : Fin 2048) (n : Fin 16384) (h : n.val = t.val / 11 * 2048 + p.val) (k : Fin 512) :
    (k0_pay1 (F := Ideal) (iblk m c 0 t) (X0_1 m c t) : FVec Ideal S2048x512 .f32) (ix2 p k)
      = dotAt (m ((c.tc : Thread nD τ).loc main_arg0)) (m ((c.tc : Thread nD τ).loc main_arg1)) n (t.val % 11 * 512 + k.val) :=
  (pay1_apply _ _ p k).trans (Finset.sum_congr rfl fun j _ => congrArg₂ (· * ·) (iblk0_apply m c t p j n h)
    (X1_apply m c t j k _ (show (t.val % 11 * 512 + k.val) % 5664 = _ by omega)))

/-- A head's store holds its columns turned. -/
theorem head_eq (c : Dev nD) (t : Fin cfg0.N) (o : ℕ) (hs : S2048x512.Slices ![0, o] S2048x128) (ho : o + 128 ≤ 512) (ho' : o % 128 = 0)
    (h0 : t.val % 11 ≤ 3) (p : Fin 2048) (l : Fin 128) (i : S16384x5632.Idx) (e0 : (i 0).val = t.val / 11 * 2048 + p.val) (e1 : (i 1).val = t.val % 11 * 512 + (o + l.val)) :
    head o hs (k0_pay1 (F := Ideal) (iblk m c 0 t) (X0_1 m c t)) (iblk m c 2 t) (iblk m c 3 t) (ix2 p l)
      = projected (m ((c.tc : Thread nD τ).loc main_arg0)) (m ((c.tc : Thread nD τ).loc main_arg1)) (m ((c.tc : Thread nD τ).loc main_arg2)) i := by
  have hl := l.isLt
  refine (head_apply o hs ho _ _ _ p l _ _ _ (block_apply m c t p (i 0) e0) (iblk2_apply m c t p l (i 0) e0) (iblk3_apply m c t p l (i 0) e0)).trans ?_
  unfold projected
  rw [if_pos (by omega), e1]
  exact congrArg _ (by omega)

/-- The result array after the run holds the projection. -/
theorem final (c : Dev nD) : (dats m 0 c).arrAt 4 cfg0.N
    = projected (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  have e0 : ((((cfg0.win 4).blk t).view.emb y : S16384x5632.Idx) 0).val = t.val / 11 * 2048 + (y 0).val := by
    blk_simp; rw [t4_eq]; rfl
  have e1 : ((((cfg0.win 4).blk t).view.emb y : S16384x5632.Idx) 1).val = t.val % 11 * 512 + (y 1).val := by
    blk_simp; rw [t4_eq]; rfl
  generalize (((cfg0.win 4).blk t).view.emb y : S16384x5632.Idx) = i at e0 e1 ⊢
  blk_simp
  rw [after0_4]
  by_cases hq : t.val % 11 ≤ 3
  · rw [outsAt0_A m c t hq (by omega)]
    frame_out
    canon_tiles x h
    all_goals
      obtain ⟨p, l, rfl⟩ : ∃ (p : Fin 2048) (l : Fin 128), x = ix2 p l := ⟨x 0, x 1, funext fun a => match a with | 0 => rfl | 1 => rfl⟩
    · exact head_eq m c t 384 slices_S2048x512_o0_384_S2048x128 (by decide) (by decide) hq p l i (e0.trans (congrArg _ h0)) (e1.trans (congrArg _ h1))
    · exact head_eq m c t 256 slices_S2048x512_o0_256_S2048x128 (by decide) (by decide) hq p l i (e0.trans (congrArg _ h0)) (e1.trans (congrArg _ h1))
    · exact head_eq m c t 128 slices_S2048x512_o0_128_S2048x128 (by decide) (by decide) hq p l i (e0.trans (congrArg _ h0)) (e1.trans (congrArg _ h1))
    · exact head_eq m c t 0 slices_S2048x512_o0_0_S2048x128 (by decide) (by decide) hq p l i (e0.trans (congrArg _ h0)) (e1.trans (congrArg _ (h1.trans (Nat.zero_add _).symm)))
  · rw [outsAt0_B m c t hq (by omega)]
    frame_out
    obtain ⟨p, q, rfl⟩ : ∃ (p : Fin 2048) (q : Fin 512), y = ix2 p q := ⟨y 0, y 1, funext fun a => match a with | 0 => rfl | 1 => rfl⟩
    refine (block_apply m c t p (i 0) e0 q).trans ?_
    unfold projected
    rw [if_neg (show ¬ (i 1).val < 2048 by omega), e1]
    rfl

end Cert.Kernel5Ideal.InProj

end
-- ==== Proof.InProj.Claims.lean ====
module

public import proofs.«01_k».proof.Defs
public import proofs.«01_k».proof.Proof.InProj.Value
public import proofs.«01_k».proof.Proof.Gen.Kernel5.Frame
public import Idealize.ShloMosaic.Lib.Quiescent

@[expose] public section

set_option maxRecDepth 16384

noncomputable section

/-! The claims about the fifth kernel, from its run and its value. -/

namespace Cert.InProjClaims

open Idealize.ShloMosaic Idealize.ShloMosaic.TcCoe Idealize.SL.Sem

/-- The kernel terminates, its arguments unchanged and its counters at zero: over extended reals, -/
theorem frame_ideal : Cert.quiescent_Kernel5Ideal := fun m ρ _ => Cert.Kernel5Ideal.Gen.frame (F := Ideal) m ρ

/-- and as launched. -/
theorem frame_kernel : Cert.quiescent_Kernel5 := fun m ρ _ => Cert.Kernel5.Gen.frame (F := Bits) m ρ

/-- The reference terminates with its arguments unchanged. -/
theorem frame_reference : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- The reference's result, from arguments equal to the kernel's, is the kernel's projection. -/
theorem reference_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread _ _).loc Cert.Reference5Ideal.main_arg0) = m ((c.tc : Thread _ _).loc Cert.Kernel5Ideal.main_arg0))
    (h1 : m' ((c.tc : Thread _ _).loc Cert.Reference5Ideal.main_arg1) = m ((c.tc : Thread _ _).loc Cert.Kernel5Ideal.main_arg1))
    (h2 : m' ((c.tc : Thread _ _).loc Cert.Reference5Ideal.main_arg2) = m ((c.tc : Thread _ _).loc Cert.Kernel5Ideal.main_arg2)) :
    (Cert.Reference5Ideal.Value.res_main_v62 m' c : FVec Ideal Cert.Kernel5Ideal.S16384x5632 .f32)
      = InProjRef.projected (m ((c.tc : Thread _ _).loc Cert.Kernel5Ideal.main_arg0)) (m ((c.tc : Thread _ _).loc Cert.Kernel5Ideal.main_arg1))
          (m ((c.tc : Thread _ _).loc Cert.Kernel5Ideal.main_arg2)) :=
  (InProjRef.result_eq m' c).trans (h0 ▸ h1 ▸ h2 ▸ rfl)

/-- The kernel's result is the reference's, element by element, on equal arguments. -/
theorem value : Cert.algebraic_Kernel5Ideal_Reference5Ideal := fun m ρ m' ρ' _ hag =>
  ⟨fun c => (Cert.Kernel5Ideal.Gen.dats m 0 c).arrAt 4 Cert.Kernel5Ideal.cfg0.N,
    Cert.Kernel5Ideal.Value.run_blocks (F := Ideal) m ρ,
    (θ_run Cert.Reference5Ideal.defs _ _).mono (fun _ h c =>
      ⟨(h c).1.trans ((reference_eq m m' c (hag c).1 (hag c).2.1 (hag c).2.2).trans (Cert.Kernel5Ideal.InProj.final m c).symm), (h c).2⟩)
      (Cert.Reference5Ideal.Value.run (F := Ideal) m' ρ')⟩

end Cert.InProjClaims

end
-- ==== Proof.lean ====
/- The proof of the certificate's claim: the frames, the preserved text and the value of the experts', the dense layer's and the projection's products. -/
module

public import proofs.«01_k».proof.Defs
public import proofs.«01_k».proof.Proof.GateUp.Claims
public import proofs.«01_k».proof.Proof.Down.Claims
public import proofs.«01_k».proof.Proof.DenseUp.Claims
public import proofs.«01_k».proof.Proof.DenseDown.Claims
public import proofs.«01_k».proof.Proof.InProj.Claims

@[expose] public section

noncomputable section

namespace Cert.Proof

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    GateUpClaims.frame_kernel, GateUpClaims.frame_ideal, GateUpClaims.frame_reference,
    DownClaims.frame_kernel, DownClaims.frame_ideal, DownClaims.frame_reference,
    DenseUpClaims.frame_kernel, DenseUpClaims.frame_ideal, DenseUpClaims.frame_reference,
    DenseDownClaims.frame_kernel, DenseDownClaims.frame_ideal, DenseDownClaims.frame_reference,
    InProjClaims.frame_kernel, InProjClaims.frame_ideal, InProjClaims.frame_reference,
    trivial, GateUpClaims.value, trivial, DownClaims.value, trivial, DenseUpClaims.value, trivial, DenseDownClaims.value,
    trivial, InProjClaims.value⟩

end Cert.Proof

end
